-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scores_rankable [hPre_scores_rankable : Cert.Pre_scores_rankable.Facts] (m : (ℓ : Loc Cert.KernelIdeal.nD Cert.KernelIdeal.τ Cert.KernelIdeal.sig) → Buf (Elt Ideal) ℓ) : Prop :=
  ∀ c : Dev Cert.KernelIdeal.nD,
    (Cert.Pre_scores_rankable.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scores_rankable [hPre_scores_rankable : Cert.Pre_scores_rankable.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scores_rankable.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_scores_rankable [hKernelIdeal : Cert.KernelIdeal.Facts] [hPre_scores_rankable : Cert.Pre_scores_rankable.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scores_rankable m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_scores_rankable [hReferenceIdeal : Cert.ReferenceIdeal.Facts] [hPre_scores_rankable : Cert.Pre_scores_rankable.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scores_rankable m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal_pre_scores_rankable [hKernelIdeal : Cert.KernelIdeal.Facts] [hReferenceIdeal : Cert.ReferenceIdeal.Facts] [hPre_scores_rankable : Cert.Pre_scores_rankable.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scores_rankable m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_scores_rankable : Cert.Pre_scores_rankable.Facts),
    quiescent_Kernel (hKernel := hKernel)
    ∧ quiescent_KernelIdeal (hKernelIdeal := hKernelIdeal)
    ∧ quiescent_KernelIdeal_pre_scores_rankable (hKernelIdeal := hKernelIdeal) (hPre_scores_rankable := hPre_scores_rankable)
    ∧ quiescent_ReferenceIdeal (hReferenceIdeal := hReferenceIdeal)
    ∧ quiescent_ReferenceIdeal_pre_scores_rankable (hReferenceIdeal := hReferenceIdeal) (hPre_scores_rankable := hPre_scores_rankable)
    ∧ preserves_Kernel_KernelIdeal
    ∧ algebraic_KernelIdeal_ReferenceIdeal_pre_scores_rankable (hKernelIdeal := hKernelIdeal) (hReferenceIdeal := hReferenceIdeal) (hPre_scores_rankable := hPre_scores_rankable)
-- ==== Pre_scores_rankable.lean ====
abbrev S4x4096x768 : Shape := ⟨3, ![4, 4096, 768]⟩
abbrev S1000x512 : Shape := ⟨2, ![1000, 512]⟩
abbrev S768x512 : Shape := ⟨2, ![768, 512]⟩
abbrev S512x768 : Shape := ⟨2, ![512, 768]⟩
abbrev S768 : Shape := ⟨1, ![768]⟩
abbrev S1x1000x512 : Shape := ⟨3, ![1, 1000, 512]⟩
abbrev S4x1000x512 : Shape := ⟨3, ![4, 1000, 512]⟩
abbrev S4x4096x512 : Shape := ⟨3, ![4, 4096, 512]⟩
abbrev S4x512x4096 : Shape := ⟨3, ![4, 512, 4096]⟩
abbrev S4x1000x4096 : Shape := ⟨3, ![4, 1000, 4096]⟩
abbrev S_ : Shape := ⟨0, ![]⟩
abbrev S4x1000x9 : Shape := ⟨3, ![4, 1000, 9]⟩
abbrev S4x1000 : Shape := ⟨2, ![4, 1000]⟩
abbrev S4x1000x1 : Shape := ⟨3, ![4, 1000, 1]⟩

class Facts : Prop where
  bcast_S1000x512_S1x1000x512_1_2 : S1000x512.BroadcastsInDim S1x1000x512 (![1, 2] : Fin 2 → Fin S1x1000x512.rank)
  bcast_S1x1000x512_S4x1000x512_0_1_2 : S1x1000x512.BroadcastsInDim S4x1000x512 (![0, 1, 2] : Fin 3 → Fin S4x1000x512.rank)
  transposes_S4x4096x512_S4x512x4096_0_2_1 : S4x4096x512.Transposes [0, 2, 1] S4x512x4096
  bcast_S_S4x1000x4096 : S_.BroadcastsInDim S4x1000x4096 (![] : Fin 0 → Fin S4x1000x4096.rank)
  sliceFits_S4x1000x4096_S4x1000x9 : S4x1000x4096.Slices (fun _ => 0) S4x1000x9
  reducesTo_S4x1000x9_S4x1000_d2 : S4x1000x9.ReducesTo [2] S4x1000
  h_S_ : 0 < S_.numel
  bcast_S4x1000_S4x1000x1_0_1 : S4x1000.BroadcastsInDim S4x1000x1 (![0, 1] : Fin 2 → Fin S4x1000x1.rank)
  bcast_S_S4x1000x1 : S_.BroadcastsInDim S4x1000x1 (![] : Fin 0 → Fin S4x1000x1.rank)
  bcast_S4x1000x1_S4x1000x4096_0_1_2 : S4x1000x1.BroadcastsInDim S4x1000x4096 (![0, 1, 2] : Fin 3 → Fin S4x1000x4096.rank)
  dot_S4x4096x768_S768x512_S4x4096x512_2_0_01_1_n_n_wf : DotDims.WF S4x4096x768 S768x512 S4x4096x512 [2] [0] [0, 1] [1] [] []
  dot_S4x1000x512_S4x512x4096_S4x1000x4096_2_1_1_2_0_0_wf : DotDims.WF S4x1000x512 S4x512x4096 S4x1000x4096 [2] [1] [1] [2] [0] [0]

variable [Facts]

def dot_S4x4096x768_S768x512_S4x4096x512_2_0_01_1_n_n : DotDims S4x4096x768 S768x512 S4x4096x512 where
  lhsContracting := [2]
  rhsContracting := [0]
  lhsNonContracting := [0, 1]
  rhsNonContracting := [1]
  lhsBatch := []
  rhsBatch := []
  wf := dot_S4x4096x768_S768x512_S4x4096x512_2_0_01_1_n_n_wf
def dot_S4x1000x512_S4x512x4096_S4x1000x4096_2_1_1_2_0_0 : DotDims S4x1000x512 S4x512x4096 S4x1000x4096 where
  lhsContracting := [2]
  rhsContracting := [1]
  lhsNonContracting := [1]
  rhsNonContracting := [2]
  lhsBatch := [0]
  rhsBatch := [0]
  wf := dot_S4x1000x512_S4x512x4096_S4x1000x4096_2_1_1_2_0_0_wf
def fn_norm {F : FTy → Type} [FloatOps F] (arg0 : FVec F S4x1000x9 .f32) : FVec F S4x1000x1 .f32 :=
  let v0 : FVec F S4x1000x9 .f32 := mulf arg0 arg0
  let cst : FVec F S_ .f32 := constant S_ .f32 0x00000000#32
  let v1 : FVec F S4x1000 .f32 := (fun x v => Host.reduceAdd x v reducesTo_S4x1000x9_S4x1000_d2 h_S_) v0 cst
  let v2 : FVec F S4x1000x1 .f32 := broadcastInDim S4x1000x1 ![0, 1] bcast_S4x1000_S4x1000x1_0_1 v1
  let v3 : FVec F S4x1000x1 .f32 := Host.sqrt v2
  v3

def fn {F : FTy → Type} [FloatOps F] (main_arg0 : FVec F S4x4096x768 .f32) (main_arg1 : FVec F S1000x512 .f32) (main_arg2 : FVec F S768x512 .f32) (main_arg3 : FVec F S768x512 .f32) (main_arg4 : FVec F S512x768 .f32) (main_arg5 : FVec F S768 .f32) : IVec S4x1000x4096 1 :=
  let main_v0 : FVec F S1x1000x512 .f32 := broadcastInDim S1x1000x512 ![1, 2] bcast_S1000x512_S1x1000x512_1_2 main_arg1
  let main_v1 : FVec F S4x1000x512 .f32 := broadcastInDim S4x1000x512 ![0, 1, 2] bcast_S1x1000x512_S4x1000x512_0_1_2 main_v0
  let main_v2 : FVec F S4x4096x512 .f32 := (fun l r => Host.dotGeneral dot_S4x4096x768_S768x512_S4x4096x512_2_0_01_1_n_n none l r) main_arg0 main_arg2
  let main_v3 : FVec F S4x512x4096 .f32 := (transpose S4x512x4096 [0, 2, 1] · transposes_S4x4096x512_S4x512x4096_0_2_1) main_v2
  let main_v4 : FVec F S4x1000x4096 .f32 := (fun l r => Host.dotGeneral dot_S4x1000x512_S4x512x4096_S4x1000x4096_2_1_1_2_0_0 none l r) main_v1 main_v3
  let main_cst : FVec F S_ .f32 := constant S_ .f32 0x406F7751#32
  let main_v5 : FVec F S4x1000x4096 .f32 := broadcastInDim S4x1000x4096 ![] bcast_S_S4x1000x4096 main_cst
  let main_v6 : FVec F S4x1000x4096 .f32 := mulf main_v4 main_v5
  let main_values : FVec F S4x1000x9 .f32 := (fun x => (Host.topK S4x1000x9 2 (FloatOps.cmpfTotal .gt) x sliceFits_S4x1000x4096_S4x1000x9).1) main_v6
  let main_indices : IVec S4x1000x9 32 := (fun x => (Host.topK S4x1000x9 2 (FloatOps.cmpfTotal .gt) x sliceFits_S4x1000x4096_S4x1000x9).2) main_v6
  let main_cst_0 : FVec F S_ .f32 := constant S_ .f32 0xFF800000#32
  let main_v7 : FVec F S4x1000x4096 .f32 := broadcastInDim S4x1000x4096 ![] bcast_S_S4x1000x4096 main_cst_0
  let main_v8 : IVec S4x1000x4096 1 := cmpf .ogt main_v6 main_v7
  let main_v9 : FVec F S4x1000x1 .f32 := fn_norm (F := F) main_values
  let main_cst_1 : FVec F S_ .f32 := constant S_ .f32 0x00000000#32
  let main_v10 : FVec F S4x1000x1 .f32 := broadcastInDim S4x1000x1 ![] bcast_S_S4x1000x1 main_cst_1
  let main_v11 : IVec S4x1000x1 1 := cmpf .ogt main_v9 main_v10
  let main_v12 : IVec S4x1000x4096 1 := broadcastInDim S4x1000x4096 ![0, 1, 2] bcast_S4x1000x1_S4x1000x4096_0_1_2 main_v11
  let main_v13 : IVec S4x1000x4096 1 := andi main_v8 main_v12
  main_v13
-- ==== Kernel.lean ====
abbrev S4x4096x768 : Shape := ⟨3, ![4, 4096, 768]⟩
abbrev S1000x512 : Shape := ⟨2, ![1000, 512]⟩
abbrev S768x512 : Shape := ⟨2, ![768, 512]⟩
abbrev S512x768 : Shape := ⟨2, ![512, 768]⟩
abbrev S768 : Shape := ⟨1, ![768]⟩
abbrev S_ : Shape := ⟨0, ![]⟩
abbrev S1024x512 : Shape := ⟨2, ![1024, 512]⟩
abbrev S1x768 : Shape := ⟨2, ![1, 768]⟩
abbrev S4x1024x768 : Shape := ⟨3, ![4, 1024, 768]⟩
abbrev S4x1000x768 : Shape := ⟨3, ![4, 1000, 768]⟩
abbrev S256x512 : Shape := ⟨2, ![256, 512]⟩
abbrev S1x256x768 : Shape := ⟨3, ![1, 256, 768]⟩
abbrev S4096x768 : Shape := ⟨2, ![4096, 768]⟩
abbrev S4096x512 : Shape := ⟨2, ![4096, 512]⟩
abbrev S256x4096 : Shape := ⟨2, ![256, 4096]⟩
abbrev S1x4096x768 : Shape := ⟨3, ![1, 4096, 768]⟩
abbrev S256 : Shape := ⟨1, ![256]⟩
abbrev S256x1 : Shape := ⟨2, ![256, 1]⟩
abbrev S256x768 : Shape := ⟨2, ![256, 768]⟩

abbrev nBuf : Space → Nat
  | .hbm => 12
  | .vmem => 13
  | .smem => 0
  | _ => 0

abbrev bufTy : (tb : Table) → Fin (tcTables nBuf tb) → BufTy
  | .hbm, ⟨0, _⟩ => ⟨S4x4096x768, .f32⟩
  | .hbm, ⟨1, _⟩ => ⟨S1000x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S768, .f32⟩
  | .hbm, ⟨6, _⟩ => ⟨S_, .i32⟩
  | .hbm, ⟨7, _⟩ => ⟨S_, .f32⟩
  | .hbm, ⟨8, _⟩ => ⟨S1024x512, .f32⟩
  | .hbm, ⟨9, _⟩ => ⟨S1x768, .f32⟩
  | .hbm, ⟨10, _⟩ => ⟨S4x1024x768, .f32⟩
  | .hbm, ⟨11, _⟩ => ⟨S4x1000x768, .f32⟩
  | .local _ .vmem, ⟨0, _⟩ => ⟨S256x512, .f32⟩
  | .local _ .vmem, ⟨1, _⟩ => ⟨S256x512, .f32⟩
  | .local _ .vmem, ⟨2, _⟩ => ⟨S768x512, .f32⟩
  | .local _ .vmem, ⟨3, _⟩ => ⟨S768x512, .f32⟩
  | .local _ .vmem, ⟨4, _⟩ => ⟨S512x768, .f32⟩
  | .local _ .vmem, ⟨5, _⟩ => ⟨S1x768, .f32⟩
  | .local _ .vmem, ⟨6, _⟩ => ⟨S1x256x768, .f32⟩
  | .local _ .vmem, ⟨7, _⟩ => ⟨S1x256x768, .f32⟩
  | .local _ .vmem, ⟨8, _⟩ => ⟨S4096x768, .f32⟩
  | .local _ .vmem, ⟨9, _⟩ => ⟨S4096x512, .f32⟩
  | .local _ .vmem, ⟨10, _⟩ => ⟨S4096x512, .f32⟩
  | .local _ .vmem, ⟨11, _⟩ => ⟨S256x4096, .f32⟩
  | .local _ .vmem, ⟨12, _⟩ => ⟨S256x4096, .f32⟩
  | _, _ => ⟨S4x4096x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_c : Ref sig .tc := ⟨.hbm, 6, rfl⟩
abbrev main_call0_call0_v0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_v0 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨2, ![4, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_off1 (i : grid0.Coords) : Fin 3 → Nat :=
  let arg0 : BitVec 32 := BitVec.ofNat 32 (i 0).val
  let c0_i32_34 : BitVec 32 := 0#32
  let c0_i32_35 : BitVec 32 := 0#32
  ![arg0.toNat, 0, 0]
@[reducible] def k0_t1_loop : Scf.Loop 32 :=
  let c0_i32_10 : BitVec 32 := 0#32
  let c9_i32 : BitVec 32 := 9#32
  let v16 : BitVec 32 := Scalar.addi c0_i32_10 c9_i32
  let c1_i32 : BitVec 32 := 1#32
  ⟨c0_i32_10, v16, c1_i32⟩
def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S768x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S768x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S4x4096x768 : Shape := ⟨3, ![4, 4096, 768]⟩
abbrev S1000x512 : Shape := ⟨2, ![1000, 512]⟩
abbrev S768x512 : Shape := ⟨2, ![768, 512]⟩
abbrev S512x768 : Shape := ⟨2, ![512, 768]⟩
abbrev S768 : Shape := ⟨1, ![768]⟩
abbrev S1x1000x512 : Shape := ⟨3, ![1, 1000, 512]⟩
abbrev S4x1000x512 : Shape := ⟨3, ![4, 1000, 512]⟩
abbrev S4x4096x512 : Shape := ⟨3, ![4, 4096, 512]⟩
abbrev S4x512x4096 : Shape := ⟨3, ![4, 512, 4096]⟩
abbrev S4x1000x4096 : Shape := ⟨3, ![4, 1000, 4096]⟩
abbrev S_ : Shape := ⟨0, ![]⟩
abbrev S4x1000x9 : Shape := ⟨3, ![4, 1000, 9]⟩
abbrev S4 : Shape := ⟨1, ![4]⟩
abbrev S4x1x1 : Shape := ⟨3, ![4, 1, 1]⟩
abbrev S1000 : Shape := ⟨1, ![1000]⟩
abbrev S1x1000x1 : Shape := ⟨3, ![1, 1000, 1]⟩
abbrev S4x1000x9x1 : Shape := ⟨4, ![4, 1000, 9, 1]⟩
abbrev S4x1000x9x3 : Shape := ⟨4, ![4, 1000, 9, 3]⟩
abbrev S4x1000 : Shape := ⟨2, ![4, 1000]⟩
abbrev S4x1000x1 : Shape := ⟨3, ![4, 1000, 1]⟩
abbrev S4x1000x768 : Shape := ⟨3, ![4, 1000, 768]⟩
abbrev S1x1x768 : Shape := ⟨3, ![1, 1, 768]⟩

abbrev nBuf : Space → Nat
  | .hbm => 80
  | .vmem => 0
  | .smem => 0
  | _ => 0

abbrev bufTy : (tb : Table) → Fin (tcTables nBuf tb) → BufTy
  | .hbm, ⟨0, _⟩ => ⟨S4x4096x768, .f32⟩
  | .hbm, ⟨1, _⟩ => ⟨S1000x512, .f32⟩
  | .hbm, ⟨2, _⟩ => ⟨S768x512, .f32⟩
  | .hbm, ⟨3, _⟩ => ⟨S768x512, .f32⟩
  | .hbm, ⟨4, _⟩ => ⟨S512x768, .f32⟩
  | .hbm, ⟨5, _⟩ => ⟨S768, .f32⟩
  | .hbm, ⟨6, _⟩ => ⟨S1x1000x512, .f32⟩
  | .hbm, ⟨7, _⟩ => ⟨S4x1000x512, .f32⟩
  | .hbm, ⟨8, _⟩ => ⟨S4x4096x512, .f32⟩
  | .hbm, ⟨9, _⟩ => ⟨S4x4096x512, .f32⟩
  | .hbm, ⟨10, _⟩ => ⟨S4x512x4096, .f32⟩
  | .hbm, ⟨11, _⟩ => ⟨S4x1000x4096, .f32⟩
  | .hbm, ⟨12, _⟩ => ⟨S_, .f32⟩
  | .hbm, ⟨13, _⟩ => ⟨S4x1000x4096, .f32⟩
  | .hbm, ⟨14, _⟩ => ⟨S4x1000x4096, .f32⟩
  | .hbm, ⟨15, _⟩ => ⟨S4x1000x9, .f32⟩
  | .hbm, ⟨16, _⟩ => ⟨S4x1000x9, .i32⟩
  | .hbm, ⟨17, _⟩ => ⟨S4, .i32⟩
  | .hbm, ⟨18, _⟩ => ⟨S4x1x1, .i32⟩
  | .hbm, ⟨19, _⟩ => ⟨S1000, .i32⟩
  | .hbm, ⟨20, _⟩ => ⟨S1x1000x1, .i32⟩
  | .hbm, ⟨21, _⟩ => ⟨S_, .f32⟩
  | .hbm, ⟨22, _⟩ => ⟨S4x1000x4096, .f32⟩
  | .hbm, ⟨23, _⟩ => ⟨S_, .i32⟩
  | .hbm, ⟨24, _⟩ => ⟨S4x1x1, .i32⟩
  | .hbm, ⟨25, _⟩ => ⟨S4x1x1, .i1⟩
  | .hbm, ⟨26, _⟩ => ⟨S_, .i32⟩
  | .hbm, ⟨27, _⟩ => ⟨S4x1x1, .i32⟩
  | .hbm, ⟨28, _⟩ => ⟨S4x1x1, .i32⟩
  | .hbm, ⟨29, _⟩ => ⟨S4x1x1, .i32⟩
  | .hbm, ⟨30, _⟩ => ⟨S_, .i32⟩
  | .hbm, ⟨31, _⟩ => ⟨S1x1000x1, .i32⟩
  | .hbm, ⟨32, _⟩ => ⟨S1x1000x1, .i1⟩
  | .hbm, ⟨33, _⟩ => ⟨S_, .i32⟩
  | .hbm, ⟨34, _⟩ => ⟨S1x1000x1, .i32⟩
  | .hbm, ⟨35, _⟩ => ⟨S1x1000x1, .i32⟩
  | .hbm, ⟨36, _⟩ => ⟨S1x1000x1, .i32⟩
  | .hbm, ⟨37, _⟩ => ⟨S_, .i32⟩
  | .hbm, ⟨38, _⟩ => ⟨S4x1000x9, .i32⟩
  | .hbm, ⟨39, _⟩ => ⟨S4x1000x9, .i1⟩
  | .hbm, ⟨40, _⟩ => ⟨S_, .i32⟩
  | .hbm, ⟨41, _⟩ => ⟨S4x1000x9, .i32⟩
  | .hbm, ⟨42, _⟩ => ⟨S4x1000x9, .i32⟩
  | .hbm, ⟨43, _⟩ => ⟨S4x1000x9, .i32⟩
  | .hbm, ⟨44, _⟩ => ⟨S4x1000x9, .i32⟩
  | .hbm, ⟨45, _⟩ => ⟨S4x1000x9, .i32⟩
  | .hbm, ⟨46, _⟩ => ⟨S4x1000x9x1, .i32⟩
  | .hbm, ⟨47, _⟩ => ⟨S4x1000x9x1, .i32⟩
  | .hbm, ⟨48, _⟩ => ⟨S4x1000x9x1, .i32⟩
  | .hbm, ⟨49, _⟩ => ⟨S4x1000x9x3, .i32⟩
  | .hbm, ⟨50, _⟩ => ⟨S4x1000x4096, .f32⟩
  | .hbm, ⟨51, _⟩ => ⟨S4x1000x4096, .f32⟩
  | .hbm, ⟨52, _⟩ => ⟨S_, .f32⟩
  | .hbm, ⟨53, _⟩ => ⟨S4x1000, .f32⟩
  | .hbm, ⟨54, _⟩ => ⟨S4x1000x1, .f32⟩
  | .hbm, ⟨55, _⟩ => ⟨S4x1000x1, .f32⟩
  | .hbm, ⟨56, _⟩ => ⟨S4x1000x4096, .f32⟩
  | .hbm, ⟨57, _⟩ => ⟨S4x1000x4096, .f32⟩
  | .hbm, ⟨58, _⟩ => ⟨S_, .f32⟩
  | .hbm, ⟨59, _⟩ => ⟨S4x1000x4096, .f32⟩
  | .hbm, ⟨60, _⟩ => ⟨S4x1000x4096, .f32⟩
  | .hbm, ⟨61, _⟩ => ⟨S_, .f32⟩
  | .hbm, ⟨62, _⟩ => ⟨S4x1000, .f32⟩
  | .hbm, ⟨63, _⟩ => ⟨S_, .f32⟩
  | .hbm, ⟨64, _⟩ => ⟨S4x1000, .f32⟩
  | .hbm, ⟨65, _⟩ => ⟨S4x1000, .f32⟩
  | .hbm, ⟨66, _⟩ => ⟨S4x1000x1, .f32⟩
  | .hbm, ⟨67, _⟩ => ⟨S4x1000x4096, .f32⟩
  | .hbm, ⟨68, _⟩ => ⟨S4x1000x4096, .f32⟩
  | .hbm, ⟨69, _⟩ => ⟨S4x1000x4096, .f32⟩
  | .hbm, ⟨70, _⟩ => ⟨S_, .f32⟩
  | .hbm, ⟨71, _⟩ => ⟨S4x1000, .f32⟩
  | .hbm, ⟨72, _⟩ => ⟨S4x1000x1, .f32⟩
  | .hbm, ⟨73, _⟩ => ⟨S4x1000x4096, .f32⟩
  | .hbm, ⟨74, _⟩ => ⟨S4x1000x4096, .f32⟩
  | .hbm, ⟨75, _⟩ => ⟨S4x1000x512, .f32⟩
  | .hbm, ⟨76, _⟩ => ⟨S4x1000x768, .f32⟩
  | .hbm, ⟨77, _⟩ => ⟨S1x1x768, .f32⟩
  | .hbm, ⟨78, _⟩ => ⟨S4x1000x768, .f32⟩
  | .hbm, ⟨79, _⟩ => ⟨S4x1000x768, .f32⟩
  | _, _ => ⟨S4x4096x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_values : Ref sig .tc := ⟨.hbm, 15, rfl⟩
abbrev main_indices : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_c : Ref sig .tc := ⟨.hbm, 23, rfl⟩
abbrev main_v13 : Ref sig .tc := ⟨.hbm, 24, rfl⟩
abbrev main_v14 : Ref sig .tc := ⟨.hbm, 25, rfl⟩
abbrev main_c_1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_c_2 : Ref sig .tc := ⟨.hbm, 30, rfl⟩
abbrev main_v18 : Ref sig .tc := ⟨.hbm, 31, rfl⟩
abbrev main_v19 : Ref sig .tc := ⟨.hbm, 32, rfl⟩
abbrev main_c_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_v0 : Ref sig .tc := ⟨.hbm, 51, rfl⟩
abbrev main_call0_cst : Ref sig .tc := ⟨.hbm, 52, rfl⟩
abbrev main_call0_v1 : Ref sig .tc := ⟨.hbm, 53, rfl⟩
abbrev main_call0_v2 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_v38 : Ref sig .tc := ⟨.hbm, 59, rfl⟩
abbrev main_v39 : Ref sig .tc := ⟨.hbm, 60, rfl⟩
abbrev main_cst_7 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_cst_9 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩

abbrev nD : Nat := 1
abbrev τ : Topo := Topo.v7x

variable {F : FTy → Type} [FloatOps F]
-- ==== Proof.Frames.lean ====
/- The three programs run to the end, leave their arguments as they were, and leave every semaphore counter at zero. -/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Quiescent

@[expose] public section

noncomputable section

namespace Cert.Proof

open Idealize.ShloMosaic Idealize.ShloMosaic.TcCoe Idealize.SL.Sem

/-- The kernel as written. -/
theorem frame_kernel : Cert.quiescent_Kernel (hKernel := Cert.Kernel.Gen.facts) := fun m ρ _ =>
  Cert.Kernel.Gen.frame m ρ

/-- The kernel with extended-real floats. -/
theorem frame_kernelIdeal : Cert.quiescent_KernelIdeal (hKernelIdeal := Cert.KernelIdeal.Gen.facts) := fun m ρ _ =>
  Cert.KernelIdeal.Gen.frame m ρ

/-- The reference with extended-real floats. -/
theorem frame_referenceIdeal : Cert.quiescent_ReferenceIdeal (hReferenceIdeal := Cert.ReferenceIdeal.Gen.facts) := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.Pick.lean ====
module

public import Idealize.ShloMosaic.Lib.PlanTiles.StableSort
public import Mathlib.Data.EReal.Inv

/-! Picking the greatest entries of a row one after another, and the stable descending sort of that row: the two
agree on which entries come first. -/

@[expose] public section

noncomputable section

namespace Cert.Pick

open Idealize.ShloMosaic
open Classical

variable {n : Nat}

/-- Entry `p` is a greatest entry of the row, and the first one. -/
def IsTop (s : Fin n → EReal) (p : Fin n) : Prop := (∀ i, s i ≤ s p) ∧ ∀ i, i < p → s i < s p

/-- The row with entry `p` set to minus infinity. -/
def blank (s : Fin n → EReal) (p : Fin n) : Fin n → EReal := fun i => if i = p then ⊥ else s i

/-- The position of the entry the stable descending sort puts at place `k`. -/
def order (s : Fin n → EReal) : Fin n → Fin n := sortedFrom fun a b => decide (s b < s a)

/-- Entry `i` is among the first `K` of the sorted row. -/
def picked (s : Fin n → EReal) (K : Nat) (i : Fin n) : Prop := ∃ k : Fin n, k.val < K ∧ order s k = i

/-- How many entries are less than entry `a`. -/
def rank (s : Fin n → EReal) (a : Fin n) : Nat := (Finset.univ.filter fun b => s b < s a).card

theorem rank_lt (s : Fin n → EReal) (a b : Fin n) : rank s a < rank s b ↔ s a < s b := by
  constructor
  · intro h
    by_contra hn
    have hle : s b ≤ s a := not_lt.mp hn
    have : rank s b ≤ rank s a := by
      refine Finset.card_le_card fun c hc => ?_
      simp only [Finset.mem_filter, Finset.mem_univ, true_and] at hc ⊢
      exact lt_of_lt_of_le hc hle
    omega
  · intro h
    refine Finset.card_lt_card (Finset.ssubset_iff_of_subset (fun c hc => ?_) |>.mpr ⟨a, ?_, ?_⟩)
    · simp only [Finset.mem_filter, Finset.mem_univ, true_and] at hc ⊢
      exact hc.trans h
    · simpa using h
    · simp

theorem rank_eq (s : Fin n → EReal) (a b : Fin n) (h : rank s a = rank s b) : s a = s b := by
  refine le_antisymm (not_lt.mp fun h' => ?_) (not_lt.mp fun h' => ?_)
  · have := (rank_lt s b a).mpr h'; omega
  · have := (rank_lt s a b).mpr h'; omega

theorem order_injective (s : Fin n → EReal) : Function.Injective (order s) := sortedFrom_injective _

theorem order_surjective (s : Fin n → EReal) : Function.Surjective (order s) := sortedFrom_surjective _

/-- The sort puts greater entries first, and equal ones by position. -/
theorem order_lt (s : Fin n → EReal) (j k : Fin n) (h : j < k) :
    s (order s k) < s (order s j) ∨ (s (order s j) = s (order s k) ∧ order s j < order s k) := by
  have hB : (fun a b : Fin n => decide (s b < s a)) = fun a b => decide (rank s b < rank s a) := by
    funext a b
    simp only [rank_lt]
  have hp := PlanTiles.pairwise_stableSort_lex (rank s) (· < ·) (List.finRange n) (List.pairwise_lt_finRange n)
  rw [← hB] at hp
  have := List.pairwise_iff_get.mp hp (j.cast (length_sortPositions n _).symm) (k.cast (length_sortPositions n _).symm) h
  rcases this with h1 | ⟨h1, h2⟩
  · exact Or.inl ((rank_lt s _ _).mp h1)
  · exact Or.inr ⟨rank_eq s _ _ h1, h2⟩

/-- Some entry is the first greatest one. -/
theorem exists_isTop (s : Fin n → EReal) (hn : 0 < n) : IsTop s (order s ⟨0, hn⟩) := by
  have key : ∀ i, s i < s (order s ⟨0, hn⟩) ∨ (s (order s ⟨0, hn⟩) = s i ∧ order s ⟨0, hn⟩ ≤ i) := by
    intro i
    obtain ⟨k, rfl⟩ := order_surjective s i
    by_cases hk : k = ⟨0, hn⟩
    · subst hk; exact Or.inr ⟨rfl, le_rfl⟩
    · rcases order_lt s ⟨0, hn⟩ k (by
        rw [Fin.lt_def]; have : k.val ≠ 0 := fun h => hk (Fin.ext h)
        show 0 < k.val; omega) with h | h
      · exact Or.inl h
      · exact Or.inr ⟨h.1, h.2.le⟩
  refine ⟨fun i => ?_, fun i hi => ?_⟩
  · rcases key i with h | h
    · exact h.le
    · exact h.1.ge
  · rcases key i with h | h
    · exact h
    · exact absurd hi (not_lt.mpr h.2)

/-- With the first `K` entries of the sorted row at minus infinity, the next one is the first greatest entry. -/
theorem isTop_rest (s : Fin n → EReal) (hs : ∀ i, s i ≠ ⊥) (k : Fin n) :
    IsTop (fun i => if picked s k.val i then ⊥ else s i) (order s k) := by
  have hk : ¬ picked s k.val (order s k) := by
    rintro ⟨j, hj, h⟩
    have := order_injective s h
    subst this
    omega
  have key : ∀ i, (if picked s k.val i then ⊥ else s i) < s (order s k) ∨
      (s (order s k) = (if picked s k.val i then ⊥ else s i) ∧ order s k ≤ i) := by
    intro i
    obtain ⟨l, rfl⟩ := order_surjective s i
    by_cases hl : picked s k.val (order s l)
    · rw [if_pos hl]
      exact Or.inl (bot_lt_iff_ne_bot.mpr (hs _))
    · rw [if_neg hl]
      have hlk : ¬ l.val < k.val := fun h => hl ⟨l, h, rfl⟩
      by_cases he : l = k
      · subst he; exact Or.inr ⟨rfl, le_rfl⟩
      · have : k < l := by
          rw [Fin.lt_def]
          have : l.val ≠ k.val := fun h => he (Fin.ext h)
          omega
        rcases order_lt s k l this with h | h
        · exact Or.inl h
        · exact Or.inr ⟨h.1, h.2.le⟩
  refine ⟨fun i => ?_, fun i hi => ?_⟩
  · show _ ≤ (if picked s k.val (order s k) then ⊥ else s (order s k))
    rw [if_neg hk]
    rcases key i with h | h
    · exact h.le
    · exact h.1.ge
  · show _ < (if picked s k.val (order s k) then ⊥ else s (order s k))
    rw [if_neg hk]
    rcases key i with h | h
    · exact h
    · exact absurd hi (not_lt.mpr h.2)

theorem picked_succ (s : Fin n → EReal) (k i : Fin n) :
    picked s (k.val + 1) i ↔ i = order s k ∨ picked s k.val i := by
  constructor
  · rintro ⟨j, hj, rfl⟩
    by_cases h : j = k
    · subst h; exact Or.inl rfl
    · have : j.val ≠ k.val := fun h' => h (Fin.ext h')
      exact Or.inr ⟨j, by omega, rfl⟩
  · rintro (rfl | ⟨j, hj, rfl⟩)
    · exact ⟨k, by omega, rfl⟩
    · exact ⟨j, by omega, rfl⟩

/-- A step that sets the first greatest entry of a row to minus infinity, repeated `K` times, sets the first `K`
entries of the sorted row to minus infinity. -/
theorem iterate_row {X : Type} (T : X → X) (row : X → Fin n → EReal)
    (hT : ∀ M p, IsTop (row M) p → row (T M) = blank (row M) p)
    (M : X) (hs : ∀ i, row M i ≠ ⊥) : ∀ K, K ≤ n →
    row (T^[K] M) = fun i => if picked (row M) K i then ⊥ else row M i
  | 0, _ => by
    funext i
    rw [if_neg]
    · rfl
    · rintro ⟨k, hk, -⟩
      omega
  | K + 1, hK => by
    have ih := iterate_row T row hT M hs K (by omega)
    rw [Function.iterate_succ_apply']
    have htop := isTop_rest (row M) hs ⟨K, by omega⟩
    rw [hT _ (order (row M) ⟨K, by omega⟩) (by rw [ih]; exact htop), ih]
    funext i
    unfold blank
    have hp := picked_succ (row M) ⟨K, by omega⟩ i
    by_cases h1 : i = order (row M) ⟨K, by omega⟩
    · rw [if_pos h1, if_pos (hp.mpr (Or.inl h1))]
    · rw [if_neg h1]
      show (if picked (row M) K i then (⊥ : EReal) else row M i) = _
      by_cases h2 : picked (row M) K i
      · rw [if_pos h2, if_pos (hp.mpr (Or.inr h2))]
      · rw [if_neg h2, if_neg (fun h => (hp.mp h).elim h1 h2)]

/-- Nine entries of a row of more than nine do not fill it. -/
theorem exists_not_picked (s : Fin n → EReal) (K : Nat) (hK : K < n) : ∃ i, ¬ picked s K i :=
  ⟨order s ⟨K, hK⟩, by
    rintro ⟨j, hj, h⟩
    have := order_injective s h
    subst this
    exact absurd hj (lt_irrefl _)⟩

/-- The greatest entry is picked. -/
theorem picked_top (s : Fin n → EReal) (hn : 0 < n) (K : Nat) (hK : 0 < K) :
    picked s K (order s ⟨0, hn⟩) := ⟨⟨0, hn⟩, hK, rfl⟩

end Cert.Pick
-- ==== Proof.Row.lean ====
module

public import proofs.«01_k».proof.Proof.Pick
public import Idealize.ShloMosaic.Lib.IdealHost

/-! One row of scores: the nine greatest kept, scaled to a fixed length, and the softmax of the result, as the kernel
computes it and as the reference does. The two agree when the kept scores are not all zero. -/

@[expose] public section

noncomputable section

namespace Cert.Pick

open Idealize.ShloMosaic
open Classical

/-- The number 4096, as the programs write it. -/
def four : EReal := FloatOps.ofBits (F := Ideal) .f32 0x45800000#32

theorem four_eq : four = ((4096 : ℝ) : EReal) := by
  show Ideal.ofBits .f32 0x45800000#32 = _
  simp [Ideal.ofBits, Ideal.ieee, -EReal.coe_mul]
  norm_num

theorem four_nonneg : 0 ≤ four := by
  rw [four_eq]; exact EReal.coe_nonneg.mpr (by norm_num)

/-- The row's first place. -/
abbrev first : Fin 4096 := ⟨0, by decide⟩

variable (s : Fin 4096 → EReal)

/-- The row with everything but its nine greatest entries set to zero. -/
def kept (i : Fin 4096) : EReal := if picked s 9 i then s i else 0

/-- The length of the kept row. -/
def nrm : EReal := Ideal.sqrt (∑ i, kept s i * kept s i)

/-- The factor that gives the kept row length 4096. -/
def factor : EReal := Ideal.div four (nrm s)

/-- The kept row scaled, as the kernel scales it. -/
def scaledK (i : Fin 4096) : EReal := if picked s 9 i then s i * factor s else 0

/-- The scaled row's maximum, as the kernel finds it. -/
def maxK : EReal := max (s (order s first) * factor s) 0

/-- The kept row scaled, as the reference scales it. -/
def scaledR (i : Fin 4096) : EReal := Ideal.div (kept s i) (nrm s) * four

/-- The scaled row's maximum, as the reference finds it. -/
def maxR : EReal := max ⊥ (scaledR s (order (scaledR s) first))

/-- The softmax of a row shifted by `m`. -/
def softmax (p : Fin 4096 → EReal) (m : EReal) (i : Fin 4096) : EReal :=
  Ideal.div (Ideal.exp (p i - m)) (∑ k, Ideal.exp (p k - m))

theorem square_nonneg (x : EReal) : 0 ≤ x * x := by
  rcases le_total 0 x with h | h
  · exact mul_nonneg h h
  · rw [← neg_mul_neg]
    exact mul_nonneg (EReal.neg_nonneg.mpr h) (EReal.neg_nonneg.mpr h)

theorem sqrt_nonneg (x : EReal) (hx : 0 ≤ x) : 0 ≤ Ideal.sqrt x := by
  induction x with
  | bot => exact absurd hx (by simp)
  | top => exact le_top
  | coe r =>
    have hr : ¬ r < 0 := not_lt.mpr (EReal.coe_nonneg.mp hx)
    rw [Ideal.sqrt_coe, if_neg hr]
    exact EReal.coe_nonneg.mpr (Real.sqrt_nonneg r)

theorem sqrt_ne_zero (x : EReal) (hx : 0 < x) : Ideal.sqrt x ≠ 0 := by
  induction x with
  | bot => exact absurd hx (by simp)
  | top => exact EReal.top_ne_zero
  | coe r =>
    have hr : 0 < r := EReal.coe_pos.mp hx
    rw [Ideal.sqrt_coe, if_neg hr.le.not_gt]
    exact (EReal.coe_pos.mpr (Real.sqrt_pos.mpr hr)).ne'

theorem nrm_nonneg : 0 ≤ nrm s := sqrt_nonneg _ (Finset.sum_nonneg fun i _ => square_nonneg _)

/-- A kept score that is not zero makes the length not zero. -/
theorem nrm_ne_zero (i : Fin 4096) (hi : picked s 9 i) (h0 : s i ≠ 0) : nrm s ≠ 0 := by
  refine sqrt_ne_zero _ (lt_of_lt_of_le ?_
    (Finset.single_le_sum (f := fun i => kept s i * kept s i) (fun i _ => square_nonneg _) (Finset.mem_univ i)))
  show 0 < kept s i * kept s i
  rw [kept, if_pos hi]
  refine lt_of_le_of_ne (square_nonneg _) fun h => ?_
  rcases mul_eq_zero.mp h.symm with h | h <;> exact h0 h

theorem factor_eq (h : nrm s ≠ 0) : factor s = four * (nrm s)⁻¹ := by
  unfold factor Ideal.div
  rw [if_neg h]

theorem factor_nonneg (h : nrm s ≠ 0) : 0 ≤ factor s := by
  rw [factor_eq s h]
  exact mul_nonneg four_nonneg (EReal.inv_nonneg_of_nonneg (nrm_nonneg s))

theorem scaled_eq (h : nrm s ≠ 0) : scaledR s = scaledK s := by
  funext i
  unfold scaledR scaledK kept
  rw [factor_eq s h]
  unfold Ideal.div
  rw [if_neg h]
  split
  · rw [mul_assoc, mul_comm four]
  · rw [zero_mul, zero_mul]

theorem max_eq (h : nrm s ≠ 0) : maxR s = maxK s := by
  have htop := exists_isTop (scaledR s) (by decide)
  unfold maxR maxK
  rw [max_eq_right bot_le]
  refine le_antisymm ?_ (max_le ?_ ?_)
  · rw [scaled_eq s h]
    rw [scaled_eq s h] at htop
    conv_lhs => unfold scaledK
    split
    · exact le_max_of_le_left (mul_le_mul_of_nonneg_right ((exists_isTop s (by decide)).1 _) (factor_nonneg s h))
    · exact le_max_right _ _
  · refine le_trans (le_of_eq ?_) (htop.1 (order s first))
    rw [scaled_eq s h, scaledK, if_pos (picked_top s (by decide) 9 (by decide))]
  · obtain ⟨u, hu⟩ := exists_not_picked s 9 (by decide)
    refine le_trans (le_of_eq ?_) (htop.1 u)
    rw [scaled_eq s h, scaledK, if_neg hu]

/-- The kernel's row of weights and the reference's are the same. -/
theorem softmax_eq (h : nrm s ≠ 0) : softmax (scaledK s) (maxK s) = softmax (scaledR s) (maxR s) := by
  rw [scaled_eq s h, max_eq s h]

end Cert.Pick
-- ==== Proof.Block.lean ====
module

public import proofs.«01_k».proof.Proof.Gen.KernelIdeal.Frame
public import Idealize.ShloMosaic.Lib.Pipeline.Value
public import Idealize.ShloMosaic.Lib.Pipeline.ValueKit
public import Idealize.ShloMosaic.Lib.ValueLayout

/-! What one grid point of the kernel computes from the blocks it is given.

A grid point holds a batch `b` and a tile of 256 classes.  On the first tile of a batch the point copies
the batch's slab of `x` in and stores `k = x · Wk` and `v = x · Wv`; on every tile it scores its classes,
blanks the greatest score nine times over in a second copy of the scores, and writes the projected,
softmax-weighted sum of `v`. -/

@[expose] public section

noncomputable section

namespace Cert.KernelIdeal.Val

open Cert.KernelIdeal Cert.KernelIdeal.Gen
open Idealize.ShloMosaic Idealize.ShloMosaic.TcCoe Idealize.SL.Sem
open Idealize.ShloMosaic.Pipeline (Dat)

variable {F : FTy → Type} [FloatOps F]

/-- The offset of a whole two-axis buffer. -/
theorem off2 : (![0, 0] : Fin 2 → ℕ) = fun _ => 0 := by funext a; fin_cases a <;> rfl

/-- The offset of a whole three-axis buffer. -/
theorem off3 : (![0, 0, 0] : Fin 3 → ℕ) = fun _ => 0 := by funext a; fin_cases a <;> rfl

/-- The scores after nine greatest entries of each row have been blanked. -/
def marked (q : Vec F S256x512 .f32) (k : Vec F S4096x512 .f32) : Vec F S256x4096 .f32 :=
  (k0_pay7 (F := F))^[9] (k0_pay6 q k)

/-- The block a grid point writes, from the tile of queries, the batch's `k` and `v`, and the projection. -/
def outBlk (q : Vec F S256x512 .f32) (k v : Vec F S4096x512 .f32) (wp : Vec F S512x768 .f32)
    (bp : Vec F S1x768 .f32) : Vec F S1x256x768 .f32 :=
  k0_pay1 (k0_pay5 q k) (k0_pay8 (marked q k)) (k0_pay9 (k0_pay5 q k) (marked q k)) v wp bp

variable (𝒱 : Variants) (c : Dev nD) (bd : Option 𝒱.V) (i : grid0.Coords) (arg2 : Memref sig .tc .hbm S4x4096x768 .f32) (harg2 : arg2.IsWhole) (arg3 : Memref sig .tc .vmem S256x512 .f32) (harg3 : arg3.IsWhole) (arg4 : Memref sig .tc .vmem S768x512 .f32) (harg4 : arg4.IsWhole) (arg5 : Memref sig .tc .vmem S768x512 .f32) (harg5 : arg5.IsWhole) (arg6 : Memref sig .tc .vmem S512x768 .f32) (harg6 : arg6.IsWhole) (arg7 : Memref sig .tc .vmem S1x768 .f32) (harg7 : arg7.IsWhole) (arg8 : Memref sig .tc .vmem S1x256x768 .f32) (harg8 : arg8.IsWhole) (arg9 : Memref sig .tc .vmem S4096x768 .f32) (harg9 : arg9.IsWhole) (arg10 : Memref sig .tc .vmem S4096x512 .f32) (harg10 : arg10.IsWhole) (arg11 : Memref sig .tc .vmem S4096x512 .f32) (harg11 : arg11.IsWhole) (arg12 : Memref sig .tc .vmem S256x4096 .f32) (harg12 : arg12.IsWhole) (arg13 : Memref sig .tc .vmem S256x4096 .f32) (harg13 : arg13.IsWhole)

/-- What a last store over a whole buffer leaves, whatever came before it. -/
theorem read_writes_whole {S : Shape} {e : EltTy} {Val : EltTy → Type} [∀ e, Nonempty (Val e)] {sig : RefSig} {κ : Kind}
    {sp : Space} (v : View sig κ sp S e) (f : v.ty.Contents Val) {off : Fin S.rank → ℕ} (h : off = fun _ => 0)
    (inb : ∀ a, off a + S.size a ≤ S.size a) (w : S.Idx → Val e) (L : List (View.Piece Val S e)) :
    v.read Val (v.writes Val f ((⟨Rect.unit off S.size inb, w⟩ : View.Piece Val S e) :: L)) = w := by
  rw [View.read_writes_eq_canon v f _ fun y => ⟨_, List.mem_cons_self, View.mem_set_unit_zero h inb y⟩]
  exact View.canon_cons_unit_zero h inb w L

/-- One trip of the loop stores one round of blanking over the whole buffer. -/
theorem trip_eq (arg14 : DmaSems sig S_) (k : Fin k0_t1_loop.trips) (f : BufTy.Contents (Elt F) arg13.view.ty) :
    tripL_k0_t1 (F := F) 𝒱 c bd i arg2 harg2 arg3 harg3 arg4 harg4 arg5 harg5 arg6 harg6 arg7 harg7 arg8 harg8 arg9 harg9 arg10 harg10 arg11 harg11 arg12 harg12 arg13 harg13 arg14 k f
      = [⟨Rect.unit ![0, 0] ![256, 4096] inb_S256x4096_S256x4096_0_0, k0_pay7 (View.read (Elt F) arg13.view f)⟩] := by
  unfold tripL_k0_t1 trip_k0_t1
  dsimp only
  simp only [View.readAt_eq_ld]
  rw [View.ld_unit_zero off2]

/-- What the blanked copy holds after `n` trips, read back. -/
theorem loop_read (arg14 : DmaSems sig S_) (G : BufTy.Contents (Elt F) arg13.view.ty) (n : ℕ) (hn : n ≤ k0_t1_loop.trips) :
    View.read (Elt F) arg13.view (arg13.view.writes (Elt F) G
      (pb_k0_t1 (F := F) 𝒱 c bd i arg2 harg2 arg3 harg3 arg4 harg4 arg5 harg5 arg6 harg6 arg7 harg7 arg8 harg8 arg9 harg9 arg10 harg10 arg11 harg11 arg12 harg12 arg13 harg13 arg14 G n))
      = (k0_pay7 (F := F))^[n] (View.read (Elt F) arg13.view G) := by
  induction n with
  | zero => rfl
  | succ n ih =>
    have h := pb_k0_t1_succ (F := F) 𝒱 c bd i arg2 harg2 arg3 harg3 arg4 harg4 arg5 harg5 arg6 harg6 arg7 harg7 arg8 harg8 arg9 harg9 arg10 harg10 arg11 harg11 arg12 harg12 arg13 harg13 arg14 G ⟨n, hn⟩
    dsimp only at h
    rw [h, trip_eq, Function.iterate_succ_apply', ih (Nat.le_of_succ_le hn), List.singleton_append,
      read_writes_whole _ _ off2]

/-- The blanked copy after the whole loop, loaded back. -/
theorem loop_load (q : Vec F S256x512 .f32) (k : Vec F S4096x512 .f32) (arg14 : DmaSems sig S_) :
    arg13.view.readCov (Val := Elt F)
      (pb_k0_t1 (F := F) 𝒱 c bd i arg2 harg2 arg3 harg3 arg4 harg4 arg5 harg5 arg6 harg6 arg7 harg7 arg8 harg8 arg9 harg9 arg10 harg10 arg11 harg11 arg12 harg12 arg13 harg13 arg14
          (arg13.view.writes (Elt F) arg13.view.junk
            [⟨Rect.unit ![0, 0] ![256, 4096] inb_S256x4096_S256x4096_0_0, k0_pay6 q k⟩])
          (Scf.trips 0#32 (Scalar.addi 0#32 9#32) 1#32)
        ++ [⟨Rect.unit ![0, 0] ![256, 4096] inb_S256x4096_S256x4096_0_0, k0_pay6 q k⟩])
      (Rect.unit ![0, 0] ![256, 4096] inb_S256x4096_S256x4096_0_0).toLoadRect = marked q k := by
  have h : View.readAt (Elt F) arg13.view (Rect.unit ![0, 0] ![256, 4096] inb_S256x4096_S256x4096_0_0).toLoadRect
      (arg13.view.writes (Elt F) (arg13.view.writes (Elt F) arg13.view.junk
          [⟨Rect.unit ![0, 0] ![256, 4096] inb_S256x4096_S256x4096_0_0, k0_pay6 q k⟩])
        (pb_k0_t1 (F := F) 𝒱 c bd i arg2 harg2 arg3 harg3 arg4 harg4 arg5 harg5 arg6 harg6 arg7 harg7 arg8 harg8 arg9 harg9 arg10 harg10 arg11 harg11 arg12 harg12 arg13 harg13 arg14
          (arg13.view.writes (Elt F) arg13.view.junk
            [⟨Rect.unit ![0, 0] ![256, 4096] inb_S256x4096_S256x4096_0_0, k0_pay6 q k⟩])
          (Scf.trips 0#32 (Scalar.addi 0#32 9#32) 1#32))) = marked q k := by
    rw [View.readAt_eq_ld, View.ld_unit_zero off2,
      loop_read (F := F) 𝒱 c bd i arg2 harg2 arg3 harg3 arg4 harg4 arg5 harg5 arg6 harg6 arg7 harg7 arg8 harg8 arg9 harg9 arg10 harg10 arg11 harg11 arg12 harg12 arg13 harg13 arg14 _ _ le_rfl,
      View.read_writes_junk_eq_canon, View.canon_unit_zero off2]
    rfl
  rw [← View.writes_append] at h
  exact h

/-- A load of a whole buffer that one copy filled. -/
theorem readCov_whole {S : Shape} {e : EltTy} {Val : EltTy → Type} [∀ e, Nonempty (Val e)] {sig : RefSig} {κ : Kind}
    {sp : Space} (v : View sig κ sp S e) {off : Fin S.rank → ℕ} (h : off = fun _ => 0)
    (inb : ∀ a, off a + S.size a ≤ S.size a) (w : S.Idx → Val e) :
    v.readCov [(⟨Rect.whole S, w⟩ : View.Piece Val S e)] (Rect.unit off S.size inb).toLoadRect = w := by
  subst h
  exact View.readCov_unit_zero v rfl inb w

/-- A two-axis index is the pair of its coordinates. -/
theorem exists_ix2 {p r : ℕ} (y : (⟨2, ![p, r]⟩ : Shape).Idx) : ∃ (a : Fin p) (b : Fin r), y = ix2 a b :=
  ⟨y 0, y 1, by funext d; fin_cases d <;> rfl⟩

/-- The slab of `x` the point copies in: the batch the point's first coordinate names. -/
def slab (i : grid0.Coords) (f : Vec F S4x4096x768 .f32) : Vec F S4096x768 .f32 :=
  fun y => f (ix3 (i 0) (y 0) (y 1))

/-- The copied slab, read through the view the copy names. -/
theorem read_slab (i : grid0.Coords) (f : Vec F S4x4096x768 .f32) (inb : ∀ a, (![(BitVec.ofNat 32 (i 0).val).toNat, 0, 0] : Fin 3 → ℕ) a + (![1, 4096, 768] : Fin 3 → ℕ) a ≤ S4x4096x768.size a)
    (h : _) :
    View.read (Elt F) (((View.whole main_arg0).slice (Rect.unit ![(BitVec.ofNat 32 (i 0).val).toNat, 0, 0] ![1, 4096, 768] inb)).reshape S4096x768 h) f
      = slab i f := by
  funext y
  have hi : (BitVec.ofNat 32 (i 0).val).toNat = (i 0).val :=
    (BitVec.toNat_ofNat _ _).trans (Nat.mod_eq_of_lt (lt_trans (i 0).isLt (by decide)))
  obtain ⟨a, b, rfl⟩ := exists_ix2 y
  rw [View.read_apply, View.emb_reshape, View.emb_slice]
  show f ((Rect.unit ![(BitVec.ofNat 32 (i 0).val).toNat, 0, 0] ![1, 4096, 768] inb).emb (Shape.reshapeEquiv h (ix2 a b))) = f _
  refine congrArg f ?_
  have e : Shape.reshapeEquiv h (ix2 a b) = ix3 (0 : Fin 1) a b := ValueIdx.reshapeEquiv_ix2_1ab h a b
  rw [e]
  funext d
  apply Fin.ext
  rw [Rect.emb_apply]
  fin_cases d
  · show (BitVec.ofNat 32 (i 0).val).toNat + 1 * 0 = (i 0).val
    rw [hi]; omega
  · show 0 + 1 * a.val = a.val
    omega
  · show 0 + 1 * b.val = b.val
    omega

/-- A point that is not the first of its batch writes the block of the `k` and `v` it finds. -/
theorem out_B (hc0 : ¬ cond0_0 i) (x0 : Vec F S256x512 .f32) (x1 : Vec F S768x512 .f32) (x2 : Vec F S768x512 .f32) (x3 : Vec F S512x768 .f32) (x4 : Vec F S1x768 .f32) (xs1 xs2 : Vec F S4096x512 .f32) (fh0 : Vec F S4x4096x768 .f32) :
    out0_B_5 c i arg3 harg3 arg4 harg4 arg5 harg5 arg6 harg6 arg7 harg7 arg8 harg8 arg9 harg9 arg10 harg10 arg11 harg11 arg12 harg12 arg13 harg13 hc0 x0 x1 x2 x3 x4 xs1 xs2 fh0 = outBlk x0 xs1 xs2 x3 x4 := by
  unfold out0_B_5
  rw [View.read_writes_eq_canon _ _ _ (cover0_B_5 c i arg3 harg3 arg4 harg4 arg5 harg5 arg6 harg6 arg7 harg7 arg8 harg8 arg9 harg9 arg10 harg10 arg11 harg11 arg12 harg12 arg13 harg13 hc0 x0 x1 x2 x3 x4 xs1 xs2 fh0)]
  unfold kernelRun0_B
  dsimp only
  sl_unfold_words
  simp only [View.readAt_eq_ld, Memref.IsWhole.read_unread]
  rw [View.canon_unit_zero off3]
  simp only [View.ld_unit_zero (S := S256x512) off2, View.ld_unit_zero (S := S768x512) off2,
    View.ld_unit_zero (S := S512x768) off2, View.ld_unit_zero (S := S1x768) off2, View.ld_unit_zero (S := S4096x512) off2]
  rw [View.readCov_unit_zero _ off2, loop_load]
  rfl

/-- The first point of a batch stores `k` of its slab. -/
theorem sout_A_k (hc0 : cond0_0 i) (x0 : Vec F S256x512 .f32) (x1 : Vec F S768x512 .f32) (x2 : Vec F S768x512 .f32) (x3 : Vec F S512x768 .f32) (x4 : Vec F S1x768 .f32) (fh0 : Vec F S4x4096x768 .f32) :
    sout0_A_1 c i arg3 harg3 arg4 harg4 arg5 harg5 arg6 harg6 arg7 harg7 arg8 harg8 arg9 harg9 arg10 harg10 arg11 harg11 arg12 harg12 arg13 harg13 hc0 x0 x1 x2 x3 x4 fh0 = k0_pay2 (slab i fh0) x1 := by
  unfold sout0_A_1
  rw [View.read_writes_eq_canon _ _ _ (scover0_A_1 c i arg3 harg3 arg4 harg4 arg5 harg5 arg6 harg6 arg7 harg7 arg8 harg8 arg9 harg9 arg10 harg10 arg11 harg11 arg12 harg12 arg13 harg13 hc0 x0 x1 x2 x3 x4 fh0)]
  unfold kernelRun0_A
  dsimp only
  sl_unfold_words
  simp only [View.readAt_eq_ld, Memref.IsWhole.read_unread]
  rw [View.canon_unit_zero off2]
  simp only [View.ld_unit_zero (S := S256x512) off2, View.ld_unit_zero (S := S768x512) off2,
    View.ld_unit_zero (S := S512x768) off2, View.ld_unit_zero (S := S1x768) off2, View.ld_unit_zero (S := S4096x512) off2]
  rw [readCov_whole _ off2]
  exact congrArg (fun X => k0_pay2 X x1) (read_slab i fh0 _ _)

/-- The first point of a batch stores `v` of its slab. -/
theorem sout_A_v (hc0 : cond0_0 i) (x0 : Vec F S256x512 .f32) (x1 : Vec F S768x512 .f32) (x2 : Vec F S768x512 .f32) (x3 : Vec F S512x768 .f32) (x4 : Vec F S1x768 .f32) (fh0 : Vec F S4x4096x768 .f32) :
    sout0_A_2 c i arg3 harg3 arg4 harg4 arg5 harg5 arg6 harg6 arg7 harg7 arg8 harg8 arg9 harg9 arg10 harg10 arg11 harg11 arg12 harg12 arg13 harg13 hc0 x0 x1 x2 x3 x4 fh0 = k0_pay3 (slab i fh0) x2 := by
  unfold sout0_A_2
  rw [View.read_writes_eq_canon _ _ _ (scover0_A_2 c i arg3 harg3 arg4 harg4 arg5 harg5 arg6 harg6 arg7 harg7 arg8 harg8 arg9 harg9 arg10 harg10 arg11 harg11 arg12 harg12 arg13 harg13 hc0 x0 x1 x2 x3 x4 fh0)]
  unfold kernelRun0_A
  dsimp only
  sl_unfold_words
  simp only [View.readAt_eq_ld, Memref.IsWhole.read_unread]
  rw [View.canon_unit_zero off2]
  simp only [View.ld_unit_zero (S := S256x512) off2, View.ld_unit_zero (S := S768x512) off2,
    View.ld_unit_zero (S := S512x768) off2, View.ld_unit_zero (S := S1x768) off2, View.ld_unit_zero (S := S4096x512) off2]
  rw [readCov_whole _ off2]
  exact congrArg (fun X => k0_pay3 X x2) (read_slab i fh0 _ _)

/-- The first point of a batch writes the block of the `k` and `v` it has just stored. -/
theorem out_A (hc0 : cond0_0 i) (x0 : Vec F S256x512 .f32) (x1 : Vec F S768x512 .f32) (x2 : Vec F S768x512 .f32) (x3 : Vec F S512x768 .f32) (x4 : Vec F S1x768 .f32) (fh0 : Vec F S4x4096x768 .f32) :
    out0_A_5 c i arg3 harg3 arg4 harg4 arg5 harg5 arg6 harg6 arg7 harg7 arg8 harg8 arg9 harg9 arg10 harg10 arg11 harg11 arg12 harg12 arg13 harg13 hc0 x0 x1 x2 x3 x4 fh0 = outBlk x0 (k0_pay2 (slab i fh0) x1) (k0_pay3 (slab i fh0) x2) x3 x4 := by
  unfold out0_A_5
  rw [View.read_writes_eq_canon _ _ _ (cover0_A_5 c i arg3 harg3 arg4 harg4 arg5 harg5 arg6 harg6 arg7 harg7 arg8 harg8 arg9 harg9 arg10 harg10 arg11 harg11 arg12 harg12 arg13 harg13 hc0 x0 x1 x2 x3 x4 fh0)]
  unfold kernelRun0_A
  dsimp only
  sl_unfold_words
  simp only [View.readAt_eq_ld, Memref.IsWhole.read_unread]
  rw [View.canon_unit_zero off3]
  simp only [View.ld_unit_zero (S := S256x512) off2, View.ld_unit_zero (S := S768x512) off2,
    View.ld_unit_zero (S := S512x768) off2, View.ld_unit_zero (S := S1x768) off2, View.ld_unit_zero (S := S4096x512) off2]
  rw [readCov_whole _ off2, View.readCov_unit_zero _ off2, View.readCov_unit_zero _ off2, View.readCov_unit_zero _ off2, loop_load]
  exact congrArg (fun X => outBlk x0 (k0_pay2 X x1) (k0_pay3 X x2) x3 x4) (read_slab i fh0 _ _)

end Cert.KernelIdeal.Val
-- ==== Proof.Payload.lean ====
module

public import proofs.«01_k».proof.Proof.Row
public import proofs.«01_k».proof.Proof.Block
public import Idealize.ShloMosaic.Lib.MatmulPlain
public import Idealize.ShloMosaic.Lib.ValueLayoutCasts
public import Idealize.ShloMosaic.Lib.WordCmp
public import Idealize.ShloMosaic.Lib.WordArith
public import Idealize.ShloMosaic.Lib.Pointwise.Reduce

/-! What the kernel's arithmetic is over the extended reals, read at one index: products as sums, a row's maximum,
and one round of picking a row's greatest entry. -/

@[expose] public section

noncomputable section

namespace Cert.KernelIdeal.Val

open Cert.KernelIdeal Cert.KernelIdeal.Gen Cert.Pick
open Idealize.ShloMosaic Idealize.ShloMosaic.TcCoe Idealize.SL.Sem
open Idealize.ShloMosaic.ValueIdx (select_apply cmpf_apply broadcast_apply)

/-! ## Constants -/

theorem ofBits_bot : FloatOps.ofBits (F := Ideal) .f32 0xFF800000#32 = (⊥ : EReal) := by
  rw [Ideal.ofBits_def]; simp [Ideal.ofBits, Ideal.ieee]

theorem ofBits_zero : FloatOps.ofBits (F := Ideal) .f32 0x00000000#32 = (0 : EReal) := Ideal.ofBits_zero_f32

/-- The factor every score carries. -/
def scale : EReal := FloatOps.ofBits (F := Ideal) .f32 0x406F7751#32

/-! ## A fold that one element wins -/

theorem fold_pick {ι α : Type} [DecidableEq ι] (op : α → α → α) [Std.Commutative op] [Std.Associative op] (b : α)
    (f : ι → α) (s : Finset ι) (p : ι) (hp : p ∈ s) (hb : op (f p) b = f p) (h : ∀ i ∈ s, op (f p) (f i) = f p) :
    s.fold op b f = f p := by
  have key : ∀ t : Finset ι, (∀ i ∈ t, op (f p) (f i) = f p) → op (f p) (t.fold op b f) = f p := by
    intro t
    induction t using Finset.induction_on with
    | empty => intro _; simpa using hb
    | insert a t ha ih =>
      intro ht
      rw [Finset.fold_insert ha, ← Std.Associative.assoc (op := op), ht a (Finset.mem_insert_self a t)]
      exact ih fun i hi => ht i (Finset.mem_insert_of_mem hi)
  conv_lhs => rw [← Finset.insert_erase hp]
  rw [Finset.fold_insert (Finset.notMem_erase p s)]
  exact key _ fun i hi => h i (Finset.mem_of_mem_erase hi)

/-! ## Rows -/

/-- A row of a tile of scores. -/
def row (r : Fin 256) (M : Vec Ideal S256x4096 .f32) : Fin 4096 → EReal := fun i => M (ix2 r i)

theorem max_row (M : Vec Ideal S256x4096 .f32) (h : S256x4096.Reduces [1] S256) (hφ) (hacc) (r : Fin 256) (p : Fin 4096)
    (hp : IsTop (row r M) p) :
    multiReduction (F := Ideal) (φ := .f32) .maximumf [1] S256 M 0xFF800000#32 h hφ hacc (ix1 r) = M (ix2 r p) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  rw [multiReduction_maximumf_eq_fold, Shape.Reduces.fold_fiber_r2_a1]
  refine fold_pick _ _ (fun k => M (ix2 r k)) _ p (Finset.mem_univ _) ?_ fun i _ => ?_
  · rw [ofBits_bot]; exact max_eq_left (α := EReal) bot_le
  · exact max_eq_left (α := EReal) (hp.1 i)

theorem sum_row (M : Vec Ideal S256x4096 .f32) (h : S256x4096.Reduces [1] S256) (hφ) (hacc) (r : Fin 256) :
    multiReduction (F := Ideal) (φ := .f32) .add [1] S256 M 0x00000000#32 h hφ hacc (ix1 r) = ∑ i : Fin 4096, M (ix2 r i) :=
  Ideal.reduceAdd_r2_a1 h M (ix1 r)

theorem min_row (M : IVec S256x4096 32) (h : S256x4096.Reduces [1] S256) (hacc) (r : Fin 256) (p : Fin 4096)
    (hlt : ∀ i, (M (ix2 r i)).toNat < 2 ^ 31) (hp : ∀ i, (M (ix2 r p)).toNat ≤ (M (ix2 r i)).toNat) :
    multiReductionI .minsi [1] S256 M 2147483647#32 h hacc (ix1 r) = M (ix2 r p) := by
  rw [multiReductionI_eq_fold, Shape.Reduces.fold_fiber_r2_a1]
  refine fold_pick _ _ (fun k => M (ix2 r k)) _ p (Finset.mem_univ _) ?_ fun i _ => ?_
  · refine BitVec.eq_of_toNat_eq ((WordArith.toNat_minsi_of_lt _ _ (hlt p) (by decide)).trans (min_eq_left ?_))
    have := hlt p
    show _ ≤ 2147483647
    omega
  · exact BitVec.eq_of_toNat_eq ((WordArith.toNat_minsi_of_lt _ _ (hlt p) (hlt i)).trans (min_eq_left (hp i)))

theorem col_apply {α : Type} (v : S256.Idx → α) (h : S256.ShapeCasts S256x1) (hb : S256x1.Broadcasts S256x4096)
    (r : Fin 256) (i : Fin 4096) : broadcastTo S256x4096 (shapeCast S256x1 v h) hb (ix2 r i) = v (ix1 r) := by
  rw [broadcastTo_apply (shapeCast S256x1 v h) hb (ix2 r i) (ix2 r (0 : Fin 1)) (by
    intro a
    match a with
    | ⟨0, _⟩ => rfl
    | ⟨1, _⟩ => rfl)]
  exact shapeCast_apply v h _ _ (by
    rw [Shape.rowMajor_val_two, Shape.rowMajor_val_one]
    show r.val = r.val * 1 + 0
    omega)

theorem shapeCast_same {α : Type} {s : Shape} (v : s.Idx → α) (h : s.ShapeCasts s) : shapeCast s v h = v := by
  funext i
  exact shapeCast_apply v h i i rfl

theorem iota_at (r : Fin 256) (i : Fin 4096) :
    iota .tc S256x4096 32 [1] iota_S256x4096_d1_w32 (ix2 r i) = BitVec.ofNat 32 i.val :=
  iota_single_apply _ _ _ _ _ _

theorem word_toNat (i : Fin 4096) : (BitVec.ofNat 32 i.val).toNat = i.val := by
  rw [BitVec.toNat_ofNat]; have := i.isLt; omega

/-- One round on a row: its first greatest entry is set to minus infinity. -/
theorem round_row (r : Fin 256) (M : Vec Ideal S256x4096 .f32) (p : Fin 4096) (hp : IsTop (row r M) p) :
    row r (k0_pay7 (F := Ideal) M) = blank (row r M) p := by
  funext i
  show k0_pay7 (F := Ideal) M (ix2 r i) = if i = p then ⊥ else M (ix2 r i)
  unfold k0_pay7
  dsimp only
  rw [shapeCast_same, select_apply, broadcast_apply]
  show Scalar.select (IntOp.cmpi .eq _ _) (FloatOps.ofBits (F := Ideal) .f32 0xFF800000#32) _ = _
  rw [col_apply, iota_at, ofBits_bot]
  have hw : ∀ k : Fin 4096, select (cmpf (F := Ideal) .oeq M (broadcastTo S256x4096 (shapeCast S256x1
        (multiReduction (F := Ideal) .maximumf [1] S256 M 0xFF800000#32 reduces_S256x4096_S256 (.inl rfl) rfl)
        shapeCasts_S256_S256x1) broadcasts_S256x1_S256x4096)) (iota .tc S256x4096 32 [1] iota_S256x4096_d1_w32)
        (broadcast S256x4096 4096#32) (ix2 r k)
      = if M (ix2 r k) = M (ix2 r p) then BitVec.ofNat 32 k.val else 4096#32 := by
    intro k
    rw [select_apply, cmpf_apply, col_apply]
    erw [max_row M _ _ _ r p hp, iota_at, broadcast_apply]
    show Scalar.select (BitVec.ofBool (decide (M (ix2 r k) = M (ix2 r p)))) _ _ = _
    by_cases hk : M (ix2 r k) = M (ix2 r p)
    · rw [if_pos hk, decide_eq_true hk]; rfl
    · rw [if_neg hk, decide_eq_false hk]; rfl
  erw [min_row _ _ _ r p (fun k => by
      rw [hw]; split
      · rw [word_toNat]; have := k.isLt; omega
      · decide) (fun k => by
      rw [hw, hw, if_pos rfl, word_toNat]
      have hpl := p.isLt
      split
      · next hk =>
        rw [word_toNat]
        by_contra hlt
        exact absurd hk (ne_of_lt (hp.2 k (by rw [Fin.lt_def]; omega)))
      · show p.val ≤ 4096; omega), hw, if_pos rfl]
  by_cases hi : i = p
  · subst hi
    rw [if_pos rfl]
    show Scalar.select (BitVec.ofBool (_ == _)) _ _ = _
    rw [beq_self_eq_true]; rfl
  · rw [if_neg hi]
    show Scalar.select (BitVec.ofBool (_ == _)) _ _ = _
    rw [beq_eq_false_iff_ne.mpr fun h => hi (Fin.ext (by
      have := congrArg BitVec.toNat h
      rwa [word_toNat, word_toNat] at this))]
    rfl

end Cert.KernelIdeal.Val
-- ==== Proof.Out.lean ====
module

public import proofs.«01_k».proof.Proof.Payload

/-! The kernel's output block over the extended reals, read at one index: the softmax weights of the row's scores
against the values, and the product with the projection. -/

@[expose] public section

noncomputable section

namespace Cert.KernelIdeal.Val

open Cert.KernelIdeal Cert.KernelIdeal.Gen Cert.Pick
open Idealize.ShloMosaic Idealize.ShloMosaic.TcCoe Idealize.SL.Sem
open Idealize.ShloMosaic.ValueIdx (select_apply cmpf_apply broadcast_apply)
open Classical

theorem pay2_apply (X : Vec Ideal S4096x768 .f32) (W : Vec Ideal S768x512 .f32) (i : Fin 4096) (e : Fin 512) :
    k0_pay2 (F := Ideal) X W (ix2 i e) = ∑ j : Fin 768, X (ix2 i j) * W (ix2 j e) := by
  unfold k0_pay2
  rw [shapeCast_same]
  refine (Ideal.matmul_plain_apply (M := 4096) (K := 768) (N := 512) none X W _ i e).trans ?_
  show FloatOps.ofBits (F := Ideal) .f32 0x00000000#32 + _ = _
  rw [ofBits_zero, zero_add]
  rfl

theorem pay3_apply (X : Vec Ideal S4096x768 .f32) (W : Vec Ideal S768x512 .f32) (i : Fin 4096) (e : Fin 512) :
    k0_pay3 (F := Ideal) X W (ix2 i e) = ∑ j : Fin 768, X (ix2 i j) * W (ix2 j e) := by
  unfold k0_pay3
  rw [shapeCast_same]
  refine (Ideal.matmul_plain_apply (M := 4096) (K := 768) (N := 512) none X W _ i e).trans ?_
  show FloatOps.ofBits (F := Ideal) .f32 0x00000000#32 + _ = _
  rw [ofBits_zero, zero_add]
  rfl

/-- A score: a query against a key, times the factor. -/
theorem pay4_apply (q : Vec Ideal S256x512 .f32) (k : Vec Ideal S4096x512 .f32) (r : Fin 256) (i : Fin 4096) :
    k0_pay4 (F := Ideal) q k (ix2 r i) = (∑ e : Fin 512, q (ix2 r e) * k (ix2 i e)) * scale := by
  unfold k0_pay4
  rw [shapeCast_same]
  refine congrArg (· * scale) ((Ideal.matmul_transposedRhs_apply (M := 256) (K := 512) (N := 4096) none q k _ r i).trans ?_)
  show FloatOps.ofBits (F := Ideal) .f32 0x00000000#32 + _ = _
  rw [ofBits_zero, zero_add]
  rfl

theorem pay5_eq (q : Vec Ideal S256x512 .f32) (k : Vec Ideal S4096x512 .f32) : k0_pay5 q k = k0_pay4 q k := by
  unfold k0_pay5; exact shapeCast_same _ _

theorem pay6_eq (q : Vec Ideal S256x512 .f32) (k : Vec Ideal S4096x512 .f32) : k0_pay6 q k = k0_pay4 q k := by
  unfold k0_pay6; exact shapeCast_same _ _

variable (q : Vec Ideal S256x512 .f32) (k : Vec Ideal S4096x512 .f32) (r : Fin 256)

/-- A row's scores. -/
abbrev scores : Fin 4096 → EReal := row r (k0_pay4 (F := Ideal) q k)

/-- After nine rounds the row's nine greatest scores are at minus infinity. -/
theorem marked_apply (hs : ∀ i, scores q k r i ≠ ⊥) (i : Fin 4096) :
    marked (F := Ideal) q k (ix2 r i) = if picked (scores q k r) 9 i then ⊥ else scores q k r i := by
  unfold marked
  rw [pay6_eq]
  exact congrFun (iterate_row (k0_pay7 (F := Ideal)) (row r) (fun M p hp => round_row r M p hp) (k0_pay4 q k) hs 9
    (by decide)) i

/-- The kernel's mask holds at the nine greatest scores. -/
theorem mask_apply (hs : ∀ i, scores q k r i ≠ ⊥) (i : Fin 4096) :
    k0_pay8 (F := Ideal) (marked q k) (ix2 r i) = BitVec.ofBool (decide (picked (scores q k r) 9 i)) := by
  unfold k0_pay8
  rw [cmpf_apply, broadcast_apply, marked_apply q k r hs i]
  show BitVec.ofBool (decide (_ = FloatOps.ofBits (F := Ideal) .f32 0xFF800000#32)) = _
  rw [ofBits_bot]
  congr 1
  refine decide_eq_decide.mpr ⟨fun h => ?_, fun h => by rw [if_pos h]⟩
  by_contra hn
  rw [if_neg hn] at h
  exact hs i h

theorem select_mask {α : Type} (P : Prop) (a b : α) :
    Scalar.select (BitVec.ofBool (decide P)) a b = if P then a else b := by
  by_cases h : P
  · rw [if_pos h, decide_eq_true h]; rfl
  · rw [if_neg h, decide_eq_false h]; rfl

/-- The kernel's scaling factor of a row. -/
theorem factor_apply (S M : Vec Ideal S256x4096 .f32) (r : Fin 256)
    (hM : ∀ i, k0_pay8 (F := Ideal) M (ix2 r i) = BitVec.ofBool (decide (picked (row r S) 9 i))) :
    k0_pay9 (F := Ideal) S M (ix2 r (0 : Fin 1)) = factor (row r S) := by
  have e : ∀ i, select (k0_pay8 (F := Ideal) M) S
      (broadcast S256x4096 (Scalar.ofBits (F := Ideal) .f32 0x00000000#32)) (ix2 r i) = kept (row r S) i := by
    intro i
    rw [select_apply, hM, select_mask, broadcast_apply]
    exact if_congr Iff.rfl rfl ofBits_zero
  unfold k0_pay9
  dsimp only
  refine congrArg (Ideal.div four) (congrArg Ideal.sqrt ?_)
  refine (shapeCast_apply _ _ _ (ix1 r) (by
    rw [Shape.rowMajor_val_two, Shape.rowMajor_val_one]
    show r.val = r.val * 1 + 0
    omega)).trans ?_
  exact (sum_row _ _ _ _ r).trans (Finset.sum_congr rfl fun i _ => congrArg₂ (· * ·) (e i) (e i))

theorem one_col_apply {α : Type} (v : S256x1.Idx → α) (hb : S256x1.Broadcasts S256x4096) (r : Fin 256) (i : Fin 4096) :
    broadcastTo S256x4096 v hb (ix2 r i) = v (ix2 r (0 : Fin 1)) :=
  broadcastTo_apply v hb (ix2 r i) (ix2 r (0 : Fin 1)) (by
    intro a
    match a with
    | ⟨0, _⟩ => rfl
    | ⟨1, _⟩ => rfl)

theorem to_col_apply {α : Type} (v : S256.Idx → α) (h : S256.ShapeCasts S256x1) (r : Fin 256) :
    shapeCast S256x1 v h (ix2 r (0 : Fin 1)) = v (ix1 r) :=
  shapeCast_apply v h _ _ (by
    rw [Shape.rowMajor_val_two, Shape.rowMajor_val_one]
    show r.val = r.val * 1 + 0
    omega)

/-- The kernel's softmax of a tile, at an index. -/
theorem softmax_apply (P : FVec Ideal S256x4096 .f32) (m : FVec Ideal S256x1 .f32) (h : S256x4096.Reduces [1] S256) (hφ) (hacc)
    (r : Fin 256) (p : Fin 4096 → EReal) (mx : EReal) (hp : ∀ i, P (ix2 r i) = p i) (hm : m (ix2 r (0 : Fin 1)) = mx)
    (i : Fin 4096) :
    divf (exp (subf P (broadcastTo S256x4096 m broadcasts_S256x1_S256x4096)))
      (broadcastTo S256x4096 (shapeCast S256x1 (multiReduction (F := Ideal) (φ := .f32) .add [1] S256
        (exp (subf P (broadcastTo S256x4096 m broadcasts_S256x1_S256x4096))) 0x00000000#32 h hφ hacc)
        shapeCasts_S256_S256x1) broadcasts_S256x1_S256x4096) (ix2 r i) = softmax p mx i := by
  have he : ∀ i, exp (subf P (broadcastTo S256x4096 m broadcasts_S256x1_S256x4096)) (ix2 r i)
      = Ideal.exp (p i - mx) := by
    intro i
    show Ideal.exp (P (ix2 r i) - broadcastTo S256x4096 m broadcasts_S256x1_S256x4096 (ix2 r i)) = _
    rw [one_col_apply, hp, hm]
  show Ideal.div (exp (subf P (broadcastTo S256x4096 m broadcasts_S256x1_S256x4096)) (ix2 r i)) _ = _
  rw [he, col_apply, sum_row]
  unfold softmax
  simp only [he]

/-- A row's maximum after scaling, from its greatest score. -/
theorem maxK_of (S : Vec Ideal S256x4096 .f32) (c2 : FVec Ideal S256x1 .f32) (r : Fin 256) (mx : FVec Ideal S256 .f32) (hf : c2 (ix2 r (0 : Fin 1)) = factor (row r S))
    (ht : mx (ix1 r) = S (ix2 r (order (row r S) first))) :
    maximumf (F := Ideal) (mulf (shapeCast S256x1 mx shapeCasts_S256_S256x1) c2)
        (broadcast S256x1 (Scalar.ofBits .f32 0x00000000#32)) (ix2 r (0 : Fin 1)) = maxK (row r S) := by
  show FloatOps.maximumf (FloatOps.mulf (shapeCast S256x1 mx shapeCasts_S256_S256x1 (ix2 r (0 : Fin 1)))
      (c2 (ix2 r (0 : Fin 1)))) (FloatOps.ofBits (F := Ideal) .f32 0x00000000#32) = _
  rw [to_col_apply, ht, hf, ofBits_zero]
  rfl

/-- A row's maximum after scaling. -/
theorem maxK_apply (S : Vec Ideal S256x4096 .f32) (c2 : FVec Ideal S256x1 .f32) (r : Fin 256) (hf : c2 (ix2 r (0 : Fin 1)) = factor (row r S)) :
    maximumf (F := Ideal) (mulf (shapeCast S256x1 (multiReduction (F := Ideal) (φ := .f32) .maximumf [1] S256 S
        0xFF800000#32 reduces_S256x4096_S256 (.inl rfl) rfl) shapeCasts_S256_S256x1) c2)
        (broadcast S256x1 (Scalar.ofBits .f32 0x00000000#32)) (ix2 r (0 : Fin 1)) = maxK (row r S) :=
  maxK_of S c2 r _ hf (max_row S reduces_S256x4096_S256 (.inl rfl) rfl r _ (exists_isTop (row r S) (by decide)))

/-- The projected softmax of a tile at an index, from the tile's scores, its mask and its scaling factors. -/
theorem pay1_apply (S : Vec Ideal S256x4096 .f32) (mk : IVec S256x4096 1) (c2 : FVec Ideal S256x1 .f32)
    (v : Vec Ideal S4096x512 .f32) (wp : Vec Ideal S512x768 .f32) (bp : Vec Ideal S1x768 .f32) (r : Fin 256) (d : Fin 768)
    (hM : ∀ i, mk (ix2 r i) = BitVec.ofBool (decide (picked (row r S) 9 i)))
    (hf : c2 (ix2 r (0 : Fin 1)) = factor (row r S)) :
    k0_pay1 (F := Ideal) S mk c2 v wp bp (ix3 (0 : Fin 1) r d)
      = (∑ e : Fin 512, (∑ i : Fin 4096, softmax (scaledK (row r S)) (maxK (row r S)) i * v (ix2 i e))
          * wp (ix2 e d)) + bp (ix2 (0 : Fin 1) d) := by
  have hp : ∀ i, select mk (mulf S (broadcastTo S256x4096 c2 broadcasts_S256x1_S256x4096))
        (broadcast S256x4096 (Scalar.ofBits .f32 0x00000000#32)) (ix2 r i) = scaledK (row r S) i := by
    intro i
    rw [select_apply, hM, select_mask]
    refine if_congr Iff.rfl (congrArg₂ (· * ·) rfl ?_) ofBits_zero
    rw [one_col_apply, hf]
  unfold k0_pay1
  dsimp only
  refine (shapeCast_apply _ _ _ (ix2 r d) (by
    rw [Shape.rowMajor_val_two, Shape.rowMajor_val_three]
    show r.val * 768 + d.val = (0 * 256 + r.val) * 768 + d.val
    omega)).trans ?_
  refine congrArg₂ (· + ·) ?_ ?_
  · refine (Ideal.matmul_plain_apply (M := 256) (K := 512) (N := 768) none _ wp _ r d).trans ?_
    refine ((congrArg (· + _) ofBits_zero).trans (zero_add _)).trans (Finset.sum_congr rfl fun e _ => ?_)
    refine congrArg (· * wp (ix2 e d)) ?_
    refine (Ideal.matmul_plain_apply (M := 256) (K := 4096) (N := 512) none _ v _ r e).trans ?_
    refine ((congrArg (· + _) ofBits_zero).trans (zero_add _)).trans (Finset.sum_congr rfl fun i _ => ?_)
    refine congrArg (· * v (ix2 i e)) ?_
    exact softmax_apply _ _ _ _ _ r _ _ hp (maxK_apply S c2 r hf) i
  · rw [shapeCast_same]
    exact broadcastTo_apply bp _ _ _ (by
      intro a
      match a with
      | ⟨0, _⟩ => rfl
      | ⟨1, _⟩ => rfl)

/-- The kernel's output block at an index. -/
theorem outBlk_apply (hs : ∀ i, scores q k r i ≠ ⊥) (v : Vec Ideal S4096x512 .f32) (wp : Vec Ideal S512x768 .f32)
    (bp : Vec Ideal S1x768 .f32) (d : Fin 768) :
    outBlk (F := Ideal) q k v wp bp (ix3 (0 : Fin 1) r d)
      = (∑ e : Fin 512, (∑ i : Fin 4096, softmax (scaledK (scores q k r)) (maxK (scores q k r)) i * v (ix2 i e))
          * wp (ix2 e d)) + bp (ix2 (0 : Fin 1) d) := by
  unfold outBlk
  rw [pay5_eq]
  exact pay1_apply _ _ _ v wp bp r d (mask_apply q k r hs) (factor_apply _ _ r (mask_apply q k r hs))

end Cert.KernelIdeal.Val
-- ==== Proof.Array.lean ====
module

public import proofs.«01_k».proof.Proof.Block

/-! The result array of the kernel as one function of the arrays it is given.

Point `t` of the sixteen handles batch `t / 4` and the tile `t % 4` of classes.  The scratch buffers hold the
`k` and `v` of batch `t / 4` after every point `t`, so the block each point writes is a block of one array `G`. -/

@[expose] public section

noncomputable section

namespace Cert.KernelIdeal.Val

open Cert.KernelIdeal Cert.KernelIdeal.Gen
open Idealize.ShloMosaic Idealize.ShloMosaic.TcCoe Idealize.SL.Sem
open Idealize.ShloMosaic.Pipeline (Dat)

variable {F : FTy → Type} [FloatOps F]

/-- The tile `j` of 256 padded queries. -/
def qTile (qp : Vec F S1024x512 .f32) (j : Fin 4) : Vec F S256x512 .f32 :=
  fun y => qp (ix2 ⟨j.val * 256 + (y 0).val, by have : (y 0).val < 256 := (y 0).isLt; omega⟩ (y 1))

/-- Batch `b` of `x`. -/
def batch (x : Vec F S4x4096x768 .f32) (b : Fin 4) : Vec F S4096x768 .f32 := fun y => x (ix3 b (y 0) (y 1))

/-- The result array before its padding rows are cut off. -/
def G (x : Vec F S4x4096x768 .f32) (qp : Vec F S1024x512 .f32) (wk wv : Vec F S768x512 .f32)
    (wp : Vec F S512x768 .f32) (bp : Vec F S1x768 .f32) : Vec F S4x1024x768 .f32 := fun i =>
  outBlk (qTile qp ⟨(i 1).val / 256, by have : (i 1).val < 1024 := (i 1).isLt; omega⟩)
    (k0_pay2 (batch x (i 0)) wk) (k0_pay3 (batch x (i 0)) wv) wp bp
    (ix3 (0 : Fin 1) (⟨(i 1).val % 256, Nat.mod_lt _ (by decide)⟩ : Fin 256) (i 2))

/-- `G` at an index inside tile `j` of batch `b`. -/
theorem G_of_eq (x : Vec F S4x4096x768 .f32) (qp : Vec F S1024x512 .f32) (wk wv : Vec F S768x512 .f32)
    (wp : Vec F S512x768 .f32) (bp : Vec F S1x768 .f32) (i : S4x1024x768.Idx) (b j : Fin 4) (y : S1x256x768.Idx)
    (h0 : (i 0).val = b.val) (h1 : (i 1).val = j.val * 256 + (y 1).val) (h2 : (i 2).val = (y 2).val) :
    G x qp wk wv wp bp i = outBlk (qTile qp j) (k0_pay2 (batch x b) wk) (k0_pay3 (batch x b) wv) wp bp y := by
  have hy0 : (y 0).val < 1 := (y 0).isLt
  have hy1 : (y 1).val < 256 := (y 1).isLt
  have hj : (⟨(i 1).val / 256, by have : (i 1).val < 1024 := (i 1).isLt; omega⟩ : Fin 4) = j :=
    Fin.ext (by show (i 1).val / 256 = j.val; omega)
  have hi : ix3 (0 : Fin 1) (⟨(i 1).val % 256, Nat.mod_lt _ (by decide)⟩ : Fin 256) (i 2) = y :=
    funext fun a => Fin.ext (by
      match a with
      | ⟨0, _⟩ => show 0 = (y 0).val; omega
      | ⟨1, _⟩ => show (i 1).val % 256 = (y 1).val; omega
      | ⟨2, _⟩ => exact h2)
  have hb : (i 0 : Fin 4) = b := Fin.ext h0
  have key : ∀ (b' j' : Fin 4) (y' : S1x256x768.Idx), b' = b → j' = j → y' = y →
      outBlk (qTile qp j') (k0_pay2 (batch x b') wk) (k0_pay3 (batch x b') wv) wp bp y'
        = outBlk (qTile qp j) (k0_pay2 (batch x b) wk) (k0_pay3 (batch x b) wv) wp bp y := by
    rintro _ _ _ rfl rfl rfl; rfl
  exact key _ _ _ hb hj hi

variable (m : (ℓ : Loc nD τ sig) → Buf (Elt F) ℓ) (c : Dev nD)

/-- The batch of a point. -/
def bOf (t : Fin cfg0.N) : Fin 4 := ⟨t.val / 4, by have : t.val < 16 := t.isLt; omega⟩

/-- The tile of a point. -/
def jOf (t : Fin cfg0.N) : Fin 4 := ⟨t.val % 4, Nat.mod_lt _ (by decide)⟩

theorem coord0 : ∀ t : Fin cfg0.N, (grid0.coords t 0).val = t.val / 4 := (by decide +kernel : ∀ t : Fin grid0.N, _)

theorem idx0 : ∀ t : Fin cfg0.N, win0_0.index t (0 : Fin 2) = t.val % 4 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 3) = t.val / 4 ∧ win0_5.index t (1 : Fin 3) = t.val % 4
    ∧ win0_5.index t (2 : Fin 3) = 0 :=
  (by decide +kernel : ∀ t : Fin grid0.N, _)

theorem iblk0 (t : Fin cfg0.N) : iblk m c 0 t = qTile (V m c main_call0_v0) (jOf t) := by
  obtain ⟨e0, e1⟩ := idx0 t
  funext j
  show V m c main_call0_v0 (((cfg0.win 0).blk t).view.emb j) = V m c main_call0_v0 _
  refine congrArg _ (funext fun a => Fin.ext ?_)
  match a with
  | ⟨0, _⟩ => show win0_0.index t (0 : Fin 2) * 256 + 1 * (j 0).val = t.val % 4 * 256 + (j 0).val; omega
  | ⟨1, _⟩ => show win0_0.index t (1 : Fin 2) * 512 + 1 * (j 1).val = (j 1).val; omega

theorem iblk1 (t : Fin cfg0.N) : iblk m c 1 t = V m c main_arg2 := by
  obtain ⟨e0, e1⟩ := idx1 t
  funext j
  show V m c main_arg2 (((cfg0.win 1).blk t).view.emb j) = V m c main_arg2 j
  refine congrArg _ (funext fun a => Fin.ext ?_)
  match a with
  | ⟨0, _⟩ => show win0_1.index t (0 : Fin 2) * 768 + 1 * (j 0).val = (j 0).val; omega
  | ⟨1, _⟩ => show win0_1.index t (1 : Fin 2) * 512 + 1 * (j 1).val = (j 1).val; omega

theorem iblk2 (t : Fin cfg0.N) : iblk m c 2 t = V m c main_arg3 := by
  obtain ⟨e0, e1⟩ := idx2 t
  funext j
  show V m c main_arg3 (((cfg0.win 2).blk t).view.emb j) = V m c main_arg3 j
  refine congrArg _ (funext fun a => Fin.ext ?_)
  match a with
  | ⟨0, _⟩ => show win0_2.index t (0 : Fin 2) * 768 + 1 * (j 0).val = (j 0).val; omega
  | ⟨1, _⟩ => show win0_2.index t (1 : Fin 2) * 512 + 1 * (j 1).val = (j 1).val; omega

theorem iblk3 (t : Fin cfg0.N) : iblk m c 3 t = V m c main_arg4 := by
  obtain ⟨e0, e1⟩ := idx3 t
  funext j
  show V m c main_arg4 (((cfg0.win 3).blk t).view.emb j) = V m c main_arg4 j
  refine congrArg _ (funext fun a => Fin.ext ?_)
  match a with
  | ⟨0, _⟩ => show win0_3.index t (0 : Fin 2) * 512 + 1 * (j 0).val = (j 0).val; omega
  | ⟨1, _⟩ => show win0_3.index t (1 : Fin 2) * 768 + 1 * (j 1).val = (j 1).val; omega

theorem iblk4 (t : Fin cfg0.N) : iblk m c 4 t = V m c main_call0_v1 := by
  obtain ⟨e0, e1⟩ := idx4 t
  funext j
  show V m c main_call0_v1 (((cfg0.win 4).blk t).view.emb j) = V m c main_call0_v1 j
  refine congrArg _ (funext fun a => Fin.ext ?_)
  match a with
  | ⟨0, _⟩ => show win0_4.index t (0 : Fin 2) * 1 + 1 * (j 0).val = (j 0).val; omega
  | ⟨1, _⟩ => show win0_4.index t (1 : Fin 2) * 768 + 1 * (j 1).val = (j 1).val; omega

/-- The slab a point copies in is the batch of the point. -/
theorem slab_eq (t : Fin cfg0.N) (f : Vec F S4x4096x768 .f32) : slab (grid0.coords t) f = batch f (bOf t) := by
  funext y
  exact congrArg f (funext fun a => match a with
    | ⟨0, _⟩ => Fin.ext (coord0 t)
    | ⟨1, _⟩ => rfl
    | ⟨2, _⟩ => rfl)

/-- After point `n` the scratch buffers hold the `k` and `v` of the point's batch. -/
theorem scratch_eq (n : ℕ) (hn : n < cfg0.N) : (outsAt0 m c n hn).2
    = (k0_pay2 (batch (V m c main_arg0) (bOf ⟨n, hn⟩)) (V m c main_arg2),
       k0_pay3 (batch (V m c main_arg0) (bOf ⟨n, hn⟩)) (V m c main_arg3)) := by
  induction n with
  | zero =>
    rw [outsAt0_A m c ⟨0, hn⟩ rfl]
    dsimp only
    rw [sout_A_k, sout_A_v, slab_eq, iblk1, iblk2]
  | succ n ih =>
    by_cases h0 : (n + 1) % 4 = 0
    · rw [outsAt0_A m c ⟨n + 1, hn⟩ h0]
      dsimp only
      rw [sout_A_k, sout_A_v, slab_eq, iblk1, iblk2]
    · rw [outsAt0_B m c ⟨n + 1, hn⟩ h0]
      have hb : bOf ⟨n + 1, hn⟩ = bOf ⟨n, Nat.lt_of_succ_lt hn⟩ := Fin.ext (by show (n + 1) / 4 = n / 4; omega)
      rw [hb, ← ih (Nat.lt_of_succ_lt hn)]
      rfl

/-- The block point `t` writes. -/
theorem out_eq (t : Fin cfg0.N) : (outsAt0 m c t.val t.isLt).1
    = outBlk (qTile (V m c main_call0_v0) (jOf t)) (k0_pay2 (batch (V m c main_arg0) (bOf t)) (V m c main_arg2))
        (k0_pay3 (batch (V m c main_arg0) (bOf t)) (V m c main_arg3)) (V m c main_arg4) (V m c main_call0_v1) := by
  by_cases h0 : t.val % 4 = 0
  · rw [outsAt0_A m c t h0]
    dsimp only
    rw [out_A, slab_eq, iblk0, iblk1, iblk2, iblk3, iblk4]
  · rw [outsAt0_B m c t h0]
    dsimp only
    rw [out_B, iblk0, iblk3, iblk4, scratch_eq]
    have hb : bOf ⟨t.val - 1, Nat.lt_of_le_of_lt (Nat.sub_le _ _) t.isLt⟩ = bOf t :=
      Fin.ext (by show (t.val - 1) / 4 = t.val / 4; omega)
    rw [hb]

/-- What point `t` writes back is its block of `G`. -/
theorem flushed_eq (t : Fin cfg0.N) : (dats m 0 c).flushed 5 t
    = ((cfg0.win 5).blk t).view.read (Elt F) (G (V m c main_arg0) (V m c main_call0_v0) (V m c main_arg2)
        (V m c main_arg3) (V m c main_arg4) (V m c main_call0_v1)) := by
  obtain ⟨e0, e1, e2⟩ := idx5 t
  have h : (dats m 0 c).flushed 5 t = (cfg0.win 5).cut (grid0.coords t) (outsAt0 m c t.val t.isLt).1 := rfl
  rw [h, out_eq]
  funext j
  have hj0 : (j 0).val < 1 := (j 0).isLt
  have hj1 : (j 1).val < 256 := (j 1).isLt
  have ht : t.val < 16 := t.isLt
  have a0 : (((cfg0.win 5).blk t).view.emb j 0).val = t.val / 4 := by
    show win0_5.index t (0 : Fin 3) * 1 + 1 * (j 0).val = _; omega
  have a1 : (((cfg0.win 5).blk t).view.emb j 1).val = t.val % 4 * 256 + (j 1).val := by
    show win0_5.index t (1 : Fin 3) * 256 + 1 * (j 1).val = _; omega
  have a2 : (((cfg0.win 5).blk t).view.emb j 2).val = (j 2).val := by
    show win0_5.index t (2 : Fin 3) * 768 + 1 * (j 2).val = _; omega
  exact (G_of_eq _ _ _ _ _ _ (((cfg0.win 5).blk t).view.emb j) (bOf t) (jOf t) j a0 a1 a2).symm

/-- Every index of the result array is in some point's block. -/
theorem covered (i : S4x1024x768.Idx) :
    ∃ t : Fin cfg0.N, (cfg0.win 5).flush t = true ∧ i ∈ ((cfg0.win 5).blk t).view.set := by
  have h0 : (i 0).val < 4 := (i 0).isLt
  have h1 : (i 1).val < 1024 := (i 1).isLt
  let t : Fin cfg0.N := ⟨(i 0).val * 4 + (i 1).val / 256, by show _ < 16; omega⟩
  refine ⟨t, flush0_5 t, ?_⟩
  obtain ⟨e0, e1, e2⟩ := idx5 t
  have ht : t.val = (i 0).val * 4 + (i 1).val / 256 := rfl
  have h := ((cfg0.win 5).blk t).view.emb_mem_set
    (ix3 (0 : Fin 1) (⟨(i 1).val % 256, Nat.mod_lt _ (by decide)⟩ : Fin 256) (i 2))
  have e : ((cfg0.win 5).blk t).view.emb
      (ix3 (0 : Fin 1) (⟨(i 1).val % 256, Nat.mod_lt _ (by decide)⟩ : Fin 256) (i 2)) = i := funext fun a => Fin.ext (by
    match a with
    | ⟨0, _⟩ => show win0_5.index t (0 : Fin 3) * 1 + 1 * 0 = (i 0).val; omega
    | ⟨1, _⟩ => show win0_5.index t (1 : Fin 3) * 256 + 1 * ((i 1).val % 256) = (i 1).val; omega
    | ⟨2, _⟩ => show win0_5.index t (2 : Fin 3) * 768 + 1 * (i 2).val = (i 2).val; omega)
  rwa [e] at h

/-- The result array after the run. -/
theorem arr_eq : (dats m 0 c).arrAt 5 cfg0.N = G (V m c main_arg0) (V m c main_call0_v0) (V m c main_arg2)
    (V m c main_arg3) (V m c main_arg4) (V m c main_call0_v1) :=
  (dats m 0 c).arrAt_eq_of_cover 5 _ (fun t _ => flushed_eq m c t) covered

end Cert.KernelIdeal.Val
-- ==== Proof.Host.lean ====
module

public import proofs.«01_k».proof.Proof.Array
public import Idealize.ShloMosaic.Lib.StableHlo.RunClose
public import Idealize.ShloMosaic.Lib.KernelVsHost

/-! The kernel's run as a function of its arguments: the queries padded to 1024 rows, the array `G`, and the
padding rows cut off again. -/

@[expose] public section

noncomputable section

namespace Cert.KernelIdeal.Val

open Cert.KernelIdeal Cert.KernelIdeal.Gen
open Idealize.ShloMosaic Idealize.ShloMosaic.TcCoe Idealize.SL.Sem
open Idealize.ShloMosaic.Pipeline (Dat)

variable {F : FTy → Type} [FloatOps F]

/-- The queries with 24 rows of padding below them. -/
def padQ (q : Vec F S1000x512 .f32) : Vec F S1024x512 .f32 :=
  pad S1024x512 ![0, 0] ![24, 0] ![0, 0] q (sitofp .f32 (constantI S_ 32 0#32)) pads_S1000x512_S1024x512_0240_000 h_S_

/-- The bias as a one-row matrix. -/
def bpRow (bp : Vec F S768 .f32) : Vec F S1x768 .f32 := shapeCast S1x768 bp shapeCasts_S768_S1x768

/-- The kernel's result as a function of its arguments. -/
def kernelOut (x : Vec F S4x4096x768 .f32) (q : Vec F S1000x512 .f32) (wk wv : Vec F S768x512 .f32)
    (wp : Vec F S512x768 .f32) (bp : Vec F S768 .f32) : Vec F S4x1000x768 .f32 :=
  extractStridedSlice S4x1000x768 ![0, 0, 0] (G x (padQ q) wk wv wp (bpRow bp)) slices_S4x1024x768_S4x1000x768_0_0_0

/-- A padded query row that is a query row. -/
theorem padQ_apply (q : Vec F S1000x512 .f32) (r : Fin 1024) (n : Fin 1000) (e : Fin 512) (h : r.val = n.val) :
    padQ q (ix2 r e) = q (ix2 n e) := by
  unfold padQ
  refine pad_apply_of_inside _ _ _ _ _ _ _ _ _ fun a => ?_
  match a with
  | ⟨0, _⟩ => show r.val = 0 + n.val * (0 + 1); omega
  | ⟨1, _⟩ => show e.val = 0 + e.val * (0 + 1); omega

/-- The bias row at a column. -/
theorem bpRow_apply (bp : Vec F S768 .f32) (d : Fin 768) : bpRow bp (ix2 (0 : Fin 1) d) = bp (ix1 d) := by
  unfold bpRow
  exact shapeCast_apply bp _ _ _ (by
    rw [Shape.rowMajor_val_two, Shape.rowMajor_val_one]
    show d.val = 0 * 768 + d.val
    omega)

/-- The kernel's result at an index: row `n` is row `n % 256` of tile `n / 256`. -/
theorem kernelOut_apply (x : Vec F S4x4096x768 .f32) (q : Vec F S1000x512 .f32) (wk wv : Vec F S768x512 .f32)
    (wp : Vec F S512x768 .f32) (bp : Vec F S768 .f32) (b : Fin 4) (n : Fin 1000) (d : Fin 768)
    (j : Fin 4) (r : Fin 256) (h : n.val = j.val * 256 + r.val) :
    kernelOut x q wk wv wp bp (ix3 b n d)
      = outBlk (qTile (padQ q) j) (k0_pay2 (batch x b) wk) (k0_pay3 (batch x b) wv) wp (bpRow bp)
          (ix3 (0 : Fin 1) r d) := by
  unfold kernelOut
  refine G_of_eq x (padQ q) wk wv wp (bpRow bp) _ b j (ix3 (0 : Fin 1) r d) ?_ ?_ ?_
  · show 0 + b.val = b.val; omega
  · show 0 + n.val = j.val * 256 + r.val; omega
  · show 0 + d.val = d.val; omega

variable (m : (ℓ : Loc nD τ sig) → Buf (Elt F) ℓ) (ρ : Dev nD → PrngReg) (c : Dev nD)

theorem V_v0 : V m c main_call0_v0 = padQ (m ((c : Thread nD τ).loc main_arg1)) := by
  show StableHlo.after _ _ _ = _
  simp only [hostOps0, List.flatten_cons, List.flatten_nil, List.append_nil, List.cons_append, List.nil_append]
  after_results
  rfl

theorem V_v1 : V m c main_call0_v1 = bpRow (m ((c : Thread nD τ).loc main_arg5)) := by
  show StableHlo.after _ _ _ = _
  simp only [hostOps0, List.flatten_cons, List.flatten_nil, List.append_nil, List.cons_append, List.nil_append]
  after_results
  rfl

theorem W_v0 : Pipeline.afterTail₀ cfgs (dats m) 0 (V0 m) [hostOps1] c main_v0
    = extractStridedSlice S4x1000x768 ![0, 0, 0] ((dats m 0 c).arrAt 5 cfg0.N) slices_S4x1024x768_S4x1000x768_0_0_0 := by
  unfold Pipeline.afterTail₀
  simp only [hostOps1, List.flatten_cons, List.flatten_nil, List.append_nil, List.cons_append, List.nil_append]
  after_results
  have h := Pipeline.withArrays_arr (cfgs 0).spec (by decide) c (V0 m c) (fun w => (dats m 0 c).arrAt w (cfgs 0).N) 5
  exact congrArg (fun A => extractStridedSlice S4x1000x768 ![0, 0, 0] A slices_S4x1024x768_S4x1000x768_0_0_0) h

/-- The kernel runs, leaves `kernelOut` of its arguments in its result and keeps the arguments. -/
theorem run : θ_run defs (onTc (τ := τ) (main (F := F))) ⟨m, fun _ => 0, ρ⟩ (fun r => ∀ c : Dev nD,
      r.2.mem ((c.tc : Thread nD τ).loc main_v0)
        = kernelOut (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v0 (Pipeline.mem_restRefs_of main_v0 (by decide) (by decide))).trans (by
        rw [W_v0, arr_eq, V_v0, V_v1, V_main_arg0, V_main_arg2, V_main_arg3, V_main_arg4]; rfl),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).2 main_arg5 (Pipeline.mem_restRefs_of main_arg5 (by decide) (by decide))).trans (W_main_arg5 m (dats m) c)⟩)
    (run_main m ρ)

end Cert.KernelIdeal.Val
-- ==== Proof.RefTop.lean ====
module

public import proofs.«01_k».proof.Proof.Row
public import Idealize.ShloMosaic.PureOps.ShapeOps
public import Idealize.ShloMosaic.PureOps.Ideal.Laws
public import Idealize.ShloMosaic.Lib.Pipeline.Value
public import Idealize.ShloMosaic.Lib.Pointwise.Reduce

/-! The nine greatest entries of every row of a rank 3 array, as the reference's sort returns them, and an array written
at places that are pairwise distinct. -/

@[expose] public section

noncomputable section

namespace Cert.ReferenceIdeal.Val

open Cert.Pick
open Idealize.ShloMosaic
open Classical

/-- The rows of the array, along its last axis. -/
def line (X : (⟨3, ![4, 1000, 4096]⟩ : Shape).Idx → EReal) (b : Fin 4) (n : Fin 1000) : Fin 4096 → EReal := fun i => X (ix3 b n i)

/-- The place `k` of the first nine, among all 4096. -/
abbrev place (k : Fin 9) : Fin 4096 := ⟨k.val, by omega⟩

theorem along_last (b : Fin 4) (n : Fin 1000) (i k : Fin 4096) :
    Shape.Idx.along (s := ⟨3, ![4, 1000, 4096]⟩) (ix3 b n i) 2 k = ix3 b n k := by
  funext a
  fin_cases a <;> simp [Shape.Idx.along, Function.update] <;> rfl

theorem greater (x y : EReal) : (FloatOps.cmpfTotal (F := Ideal) (φ := .f32) .gt x y == 1#1) = decide (y < x) := by
  show (BitVec.ofBool (decide (y < x)) == 1#1) = _
  by_cases h : y < x <;> simp [h]

/-- The place the sort reads for its entry `k` of a row. -/
theorem sorted_at (X : (⟨3, ![4, 1000, 4096]⟩ : Shape).Idx → EReal) (b : Fin 4) (n : Fin 1000) (i : Fin 4096) :
    (sortedFrom (fun k k' =>
      FloatOps.cmpfTotal (F := Ideal) (φ := .f32) .gt (X (Shape.Idx.along (s := ⟨3, ![4, 1000, 4096]⟩) (ix3 b n i) 2 k))
        (X (Shape.Idx.along (s := ⟨3, ![4, 1000, 4096]⟩) (ix3 b n i) 2 k')) == 1#1) i : Fin 4096) = order (line X b n) i := by
  unfold order line
  congr 1
  funext k k'
  rw [along_last, along_last]
  exact greater _ _

theorem top_values (X : (⟨3, ![4, 1000, 4096]⟩ : Shape).Idx → EReal)
    (h : (⟨3, ![4, 1000, 4096]⟩ : Shape).Slices (fun _ => 0) ⟨3, ![4, 1000, 9]⟩) (b : Fin 4) (n : Fin 1000) (k : Fin 9) :
    (Host.topK ⟨3, ![4, 1000, 9]⟩ 2 (FloatOps.cmpfTotal (F := Ideal) (φ := .f32) .gt) X h).1 (ix3 b n k)
      = line X b n (order (line X b n) (place k)) := by
  unfold Host.topK
  dsimp only
  rw [extractStridedSlice_apply _ _ h (ix3 b n k) (ix3 b n (place k)) (by intro a; fin_cases a <;> simp <;> rfl)]
  unfold Host.sort2
  rw [dif_pos (by decide)]
  dsimp only
  refine (congrArg X (along_last b n (place k) _)).trans ?_
  exact congrArg (line X b n) (sorted_at X b n (place k))

theorem top_places (X : (⟨3, ![4, 1000, 4096]⟩ : Shape).Idx → EReal)
    (h : (⟨3, ![4, 1000, 4096]⟩ : Shape).Slices (fun _ => 0) ⟨3, ![4, 1000, 9]⟩) (b : Fin 4) (n : Fin 1000) (k : Fin 9) :
    (Host.topK ⟨3, ![4, 1000, 9]⟩ 2 (FloatOps.cmpfTotal (F := Ideal) (φ := .f32) .gt) X h).2 (ix3 b n k)
      = BitVec.ofNat 32 (order (line X b n) (place k)).val := by
  unfold Host.topK
  dsimp only
  rw [extractStridedSlice_apply _ _ h (ix3 b n k) (ix3 b n (place k)) (by intro a; fin_cases a <;> simp <;> rfl)]
  unfold Host.sort2
  rw [dif_pos (by decide)]
  dsimp only
  rw [dif_pos (by decide)]
  refine (congrArg (iotaInDim ⟨3, ![4, 1000, 4096]⟩ 32 2) (along_last b n (place k) _)).trans ?_
  exact congrArg (fun p : Fin 4096 => BitVec.ofNat 32 p.val) (sorted_at X b n (place k))

section Writes

variable {σ ν : Type} {α : Type} (land : ν → Option σ) (val : ν → α)

/-- One write: the value of update `m` goes to the place it lands at. -/
def put (r : σ → α) (m : ν) : σ → α := match land m with
  | some i => fun i' => if i' = i then val m else r i'
  | none => r

theorem put_same (r : σ → α) (m : ν) (i : σ) (h : land m = some i) : put land val r m i = val m := by
  simp [put, h]

theorem put_other (r : σ → α) (m : ν) (i : σ) (h : land m ≠ some i) : put land val r m i = r i := by
  unfold put
  cases h0 : land m with
  | none => rfl
  | some i₀ =>
    refine if_neg ?_
    rintro rfl
    exact h h0

/-- A place no update lands at keeps its value. -/
theorem writes_none (i : σ) : ∀ (L : List ν) (r : σ → α), (∀ m ∈ L, land m ≠ some i) → L.foldl (put land val) r i = r i
  | [], _, _ => rfl
  | m :: L, r, h => by
    rw [List.foldl_cons, writes_none i L _ fun m' hm' => h m' (List.mem_cons_of_mem _ hm'),
      put_other _ _ _ _ _ (h m List.mem_cons_self)]

/-- A place that some update lands at, and all that do have value `v`, holds `v`. -/
theorem writes_some (i : σ) (v : α) : ∀ (L : List ν) (r : σ → α), (∃ m ∈ L, land m = some i) →
    (∀ m ∈ L, land m = some i → val m = v) → L.foldl (put land val) r i = v
  | [], _, h, _ => by obtain ⟨m, hm, _⟩ := h; exact absurd hm List.not_mem_nil
  | m :: L, r, h, hv => by
    rw [List.foldl_cons]
    by_cases hL : ∃ m' ∈ L, land m' = some i
    · exact writes_some i v L _ hL fun m' hm' => hv m' (List.mem_cons_of_mem _ hm')
    · rw [writes_none land val i L _ fun m' hm' he => hL ⟨m', hm', he⟩]
      obtain ⟨m', hm', he⟩ := h
      rcases List.mem_cons.mp hm' with rfl | hin
      · rw [put_same _ _ _ _ _ he, hv _ List.mem_cons_self he]
      · exact absurd ⟨m', hin, he⟩ hL

end Writes

theorem scatter_eq {s si u : Shape} {α : Type} {w : Nat} (d : ScatterDims s si u) (x : s.Idx → α) (idx : IVec si w)
    (upd : u.Idx → α) : Host.scatter d (fun _ b => b) x idx upd = (List.finRange u.numel).foldl
      (put (fun m => d.resultIdx? (u.rowMajor.symm m) idx) (fun m => upd (u.rowMajor.symm m))) x := by
  unfold Host.scatter
  refine congrArg (fun f => List.foldl f x (List.finRange u.numel)) (funext fun r => funext fun m => ?_)
  unfold put
  dsimp only
  cases d.resultIdx? (u.rowMajor.symm m) idx with
  | none => rfl
  | some i₀ =>
    funext i'
    by_cases h : i' = i₀
    · simp [h]
    · simp [h]

/-- The reference's write of updates, at a place no update lands at. -/
theorem scatter_none {s si u : Shape} {α : Type} {w : Nat} (d : ScatterDims s si u) (x : s.Idx → α) (idx : IVec si w)
    (upd : u.Idx → α) (i : s.Idx) (h : ∀ j, d.resultIdx? j idx ≠ some i) :
    Host.scatter d (fun _ b => b) x idx upd i = x i := by
  rw [scatter_eq]
  exact writes_none (fun m => d.resultIdx? (u.rowMajor.symm m) idx) (fun m => upd (u.rowMajor.symm m)) i _ x fun _ _ => h _

/-- The reference's write of updates, at a place where update `j` lands and no update with another value. -/
theorem scatter_some {s si u : Shape} {α : Type} {w : Nat} (d : ScatterDims s si u) (x : s.Idx → α) (idx : IVec si w)
    (upd : u.Idx → α) (i : s.Idx) (j : u.Idx) (hj : d.resultIdx? j idx = some i)
    (h : ∀ j', d.resultIdx? j' idx = some i → upd j' = upd j) :
    Host.scatter d (fun _ b => b) x idx upd i = upd j := by
  rw [scatter_eq]
  exact writes_some (fun m => d.resultIdx? (u.rowMajor.symm m) idx) (fun m => upd (u.rowMajor.symm m)) i (upd j) _ x
    ⟨u.rowMajor j, List.mem_finRange _, by simpa using hj⟩ fun _ _ hm => h _ hm

end Cert.ReferenceIdeal.Val

end
-- ==== Proof.RefScatter.lean ====
module

public import proofs.«01_k».proof.Proof.RefTop
public import proofs.«01_k».proof.Proof.Gen.ReferenceIdeal.Read
public import Idealize.ShloMosaic.Lib.Pipeline.ValueKit
public import Idealize.ShloMosaic.Lib.WordCmp
public import Idealize.ShloMosaic.Lib.WordArith

/-! The array the reference fills: the nine greatest scores of every row at their own places, zero elsewhere. -/

@[expose] public section

noncomputable section

namespace Cert.ReferenceIdeal.Val

open Cert.ReferenceIdeal Cert.ReferenceIdeal.Gen Cert.ReferenceIdeal.Read Cert.Pick
open Idealize.ShloMosaic Idealize.ShloMosaic.TcCoe Idealize.SL.Sem
open Classical

/-- A place in the array of places to write, with the coordinate of the place in its last component. -/
abbrev at4 (b : Fin 4) (n : Fin 1000) (k : Fin 9) (c : Fin 3) : S4x1000x9x3.Idx := fun a => match a with
  | ⟨0, _⟩ => b
  | ⟨1, _⟩ => n
  | ⟨2, _⟩ => k
  | ⟨3, _⟩ => c

theorem siIdx_at (b : Fin 4) (n : Fin 1000) (k : Fin 9) (c : Fin 3) :
    scatter_S4x1000x4096_S4x1000x9x3_S4x1000x9_n_012_012_3.siIdx (ix3 b n k) c = at4 b n k c := by
  funext a
  fin_cases a <;> rfl

theorem window_at (j : S4x1000x9.Idx) (a : Fin 3) :
    scatter_S4x1000x4096_S4x1000x9x3_S4x1000x9_n_012_012_3.window j a = 0 := by
  fin_cases a <;> rfl

theorem start_at (idx : IVec S4x1000x9x3 32) (b : Fin 4) (n : Fin 1000) (k : Fin 9) (a : Fin 3) :
    scatter_S4x1000x4096_S4x1000x9x3_S4x1000x9_n_012_012_3.start (ix3 b n k) idx a = (idx (at4 b n k a)).toInt := by
  rw [← siIdx_at]
  fin_cases a <;> rfl

theorem toInt_small (v : Nat) (h : v < 2 ^ 31) : (BitVec.ofNat 32 v).toInt = v := by
  rw [BitVec.toInt_eq_toNat_of_lt]
  · rw [BitVec.toNat_ofNat, Nat.mod_eq_of_lt (by omega)]
  · rw [BitVec.toNat_ofNat, Nat.mod_eq_of_lt (by omega)]; omega

/-- Update `k` of row `b`, `n` lands at the place its three words say. -/
theorem lands (idx : IVec S4x1000x9x3 32) (b : Fin 4) (n : Fin 1000) (k : Fin 9) (p : Fin 4096)
    (h0 : idx (at4 b n k 0) = BitVec.ofNat 32 b.val) (h1 : idx (at4 b n k 1) = BitVec.ofNat 32 n.val)
    (h2 : idx (at4 b n k 2) = BitVec.ofNat 32 p.val) :
    scatter_S4x1000x4096_S4x1000x9x3_S4x1000x9_n_012_012_3.resultIdx? (ix3 b n k) idx = some (ix3 b n p) := by
  have e (a : Fin 3) : scatter_S4x1000x4096_S4x1000x9x3_S4x1000x9_n_012_012_3.start (ix3 b n k) idx a
      + scatter_S4x1000x4096_S4x1000x9x3_S4x1000x9_n_012_012_3.window (ix3 b n k) a = ((ix3 b n p : S4x1000x4096.Idx) a).val := by
    rw [start_at, window_at]
    fin_cases a
    · show (idx (at4 b n k 0)).toInt + 0 = (b.val : Int)
      rw [h0, toInt_small _ (by omega)]; rfl
    · show (idx (at4 b n k 1)).toInt + 0 = (n.val : Int)
      rw [h1, toInt_small _ (by omega)]; rfl
    · show (idx (at4 b n k 2)).toInt + 0 = (p.val : Int)
      rw [h2, toInt_small _ (by omega)]; rfl
  unfold ScatterDims.resultIdx?
  rw [dif_pos]
  · refine congrArg some (funext fun a => Fin.ext ?_)
    show (_ : Int).toNat = _
    rw [e a]; rfl
  · intro a
    rw [e a]
    exact ⟨Int.natCast_nonneg _, by exact_mod_cast ((ix3 b n p : S4x1000x4096.Idx) a).isLt⟩

/-- The array the reference fills, when the words say where the nine greatest entries of each row are. -/
theorem filled (X : FVec Ideal S4x1000x4096 .f32) (z : FVec Ideal S4x1000x4096 .f32) (hz : ∀ i, z i = 0)
    (idx : IVec S4x1000x9x3 32) (vals : FVec Ideal S4x1000x9 .f32)
    (h0 : ∀ b n k, idx (at4 b n k 0) = BitVec.ofNat 32 b.val) (h1 : ∀ b n k, idx (at4 b n k 1) = BitVec.ofNat 32 n.val)
    (h2 : ∀ b n k, idx (at4 b n k 2) = BitVec.ofNat 32 (order (line X b n) (place k)).val)
    (hv : ∀ b n k, vals (ix3 b n k) = line X b n (order (line X b n) (place k))) (b : Fin 4) (n : Fin 1000) (i : Fin 4096) :
    Host.scatter scatter_S4x1000x4096_S4x1000x9x3_S4x1000x9_n_012_012_3 (fun _ y => y) z idx vals (ix3 b n i)
      = kept (line X b n) i := by
  have land (b n k) := lands idx b n k _ (h0 b n k) (h1 b n k) (h2 b n k)
  have inj {b' : Fin 4} {n' : Fin 1000} {i' : Fin 4096} (h : (ix3 b' n' i' : S4x1000x4096.Idx) = ix3 b n i) :
      b' = b ∧ n' = n ∧ i' = i := ⟨congrFun h 0, congrFun h 1, congrFun h 2⟩
  have eta (j : S4x1000x9.Idx) : ∃ (b' : Fin 4) (n' : Fin 1000) (k' : Fin 9), j = ix3 b' n' k' :=
    ⟨j 0, j 1, j 2, funext fun a => by fin_cases a <;> rfl⟩
  unfold kept
  split
  · rename_i hp
    obtain ⟨k, hk, rfl⟩ := hp
    rw [scatter_some _ z idx vals _ (ix3 b n (⟨k.val, hk⟩ : Fin 9)) (land b n _)]
    · exact hv b n _
    · intro j' hj'
      obtain ⟨b', n', k', rfl⟩ := eta j'
      rw [land] at hj'
      obtain ⟨hb, hn, hi⟩ := inj (Option.some.inj hj')
      rw [hb, hn] at hi ⊢
      rw [hv, hv, hi]
  · rename_i hp
    rw [scatter_none _ z idx vals, hz]
    intro j' hj'
    obtain ⟨b', n', k', rfl⟩ := eta j'
    rw [land] at hj'
    obtain ⟨hb, hn, hi⟩ := inj (Option.some.inj hj')
    rw [hb, hn] at hi
    exact hp ⟨_, k'.isLt, hi⟩

theorem not_wrapped (a : BitVec 32) (v : Nat) (h : v < 2 ^ 31) :
    Scalar.select (IntOp.cmpi .slt (BitVec.ofNat 32 v) 0#32) a (BitVec.ofNat 32 v) = BitVec.ofNat 32 v := by
  rw [WordCmp.cmpi_slt_zero, WordCmp.select_decide, if_neg]
  rw [BitVec.toNat_ofNat, Nat.mod_eq_of_lt (by omega)]; omega

variable (x0 : (⟨S4x4096x768, .f32⟩ : BufTy).Contents (Elt Ideal)) (x1 : (⟨S1000x512, .f32⟩ : BufTy).Contents (Elt Ideal))
  (x2 : (⟨S768x512, .f32⟩ : BufTy).Contents (Elt Ideal))

/-- The scores of one row, as the reference has them. -/
abbrev refScores (b : Fin 4) (n : Fin 1000) : Fin 4096 → EReal := line (val_main_v7 (F := Ideal) x0 x1 x2) b n

theorem values_at (b : Fin 4) (n : Fin 1000) (k : Fin 9) : val_main_values (F := Ideal) x0 x1 x2 (ix3 b n k)
    = refScores x0 x1 x2 b n (order (refScores x0 x1 x2 b n) (place k)) := top_values _ _ b n k

theorem indices_at (b : Fin 4) (n : Fin 1000) (k : Fin 9) : val_main_indices (F := Ideal) x0 x1 x2 (ix3 b n k)
    = BitVec.ofNat 32 (order (refScores x0 x1 x2 b n) (place k)).val := top_places _ _ b n k

theorem v28_at (b : Fin 4) (n : Fin 1000) (k : Fin 9) : val_main_v28 (F := Ideal) (ix3 b n k) = BitVec.ofNat 32 b.val := by
  rw [val_main_v28_apply, val_main_v17_apply, val_main_v14_apply, val_main_v9_apply, val_main_v8_apply, val_main_v13_apply,
    val_main_c_apply]
  exact not_wrapped _ b.val (by omega)

theorem v29_at (b : Fin 4) (n : Fin 1000) (k : Fin 9) : val_main_v29 (F := Ideal) (ix3 b n k) = BitVec.ofNat 32 n.val := by
  rw [val_main_v29_apply, val_main_v22_apply, val_main_v19_apply, val_main_v11_apply, val_main_v10_apply, val_main_v18_apply,
    val_main_c_2_apply]
  exact not_wrapped _ n.val (by omega)

theorem v27_at (b : Fin 4) (n : Fin 1000) (k : Fin 9) : val_main_v27 (F := Ideal) x0 x1 x2 (ix3 b n k)
    = BitVec.ofNat 32 (order (refScores x0 x1 x2 b n) (place k)).val := by
  rw [val_main_v27_apply, val_main_v24_apply, val_main_v23_apply, val_main_c_4_apply, indices_at]
  exact not_wrapped _ _ (by omega)

theorem v33_at (b : Fin 4) (n : Fin 1000) (k : Fin 9) (c : Fin 3) (v : BitVec 32)
    (h0 : c = 0 → val_main_v28 (F := Ideal) (ix3 b n k) = v) (h1 : c = 1 → val_main_v29 (F := Ideal) (ix3 b n k) = v)
    (h2 : c = 2 → val_main_v27 (F := Ideal) x0 x1 x2 (ix3 b n k) = v) :
    val_main_v33 (F := Ideal) x0 x1 x2 (at4 b n k c) = v := by
  have key (i : S4x1000x9x1.Idx) (hi : ∀ a : Fin 4, a ≠ 3 → (i a : Nat) = at4 b n k c a) (j : S4x1000x9.Idx)
      (hj : ∀ a : Fin 3, (j a : Nat) = i (Fin.castSucc a)) : j = ix3 b n k := by
    funext a
    refine Fin.ext ((hj a).trans ((hi _ ?_).trans ?_)) <;> fin_cases a <;> first | decide | rfl
  unfold val_main_v33
  refine concatenate_unit_eq _ _ _ _ _ rfl ⟨fun hc _ i _ hi => ?_, fun hc _ i _ hi => ?_, fun hc _ i _ hi => ?_, trivial⟩
  · refine (val_main_v30_apply (F := Ideal) i).trans (.trans (congrArg _ (key i hi _ fun a => ?_)) (h0 (Fin.ext hc)))
    fin_cases a <;> rfl
  · refine (val_main_v31_apply (F := Ideal) i).trans (.trans (congrArg _ (key i hi _ fun a => ?_)) (h1 (Fin.ext hc)))
    fin_cases a <;> rfl
  · have e : idx_main_v32 i = ix3 b n k := key i hi _ fun a => by fin_cases a <;> rfl
    have e' : val_main_v32 (F := Ideal) x0 x1 x2 i = v := by
      rw [val_main_v32_apply, e]
      exact h2 (Fin.ext hc)
    dsimp only
    exact e'

/-- The array the reference fills. -/
theorem v34_at (b : Fin 4) (n : Fin 1000) (i : Fin 4096) :
    val_main_v34 (F := Ideal) x0 x1 x2 (ix3 b n i) = kept (refScores x0 x1 x2 b n) i := by
  unfold val_main_v34
  refine filled (val_main_v7 (F := Ideal) x0 x1 x2) _ (fun i => ?_) _ _ (fun b n k => ?_) (fun b n k => ?_) (fun b n k => ?_)
    (values_at x0 x1 x2) b n i
  · rw [val_main_v12_apply, val_main_cst_0_apply]
    exact Ideal.ofBits_zero_f32
  · exact v33_at x0 x1 x2 b n k 0 _ (fun _ => v28_at b n k) (by simp) (by simp)
  · exact v33_at x0 x1 x2 b n k 1 _ (by simp) (fun _ => v29_at b n k) (by simp)
  · exact v33_at x0 x1 x2 b n k 2 _ (by simp) (by simp) (fun _ => v27_at x0 x1 x2 b n k)

end Cert.ReferenceIdeal.Val

end
-- ==== Proof.RefOut.lean ====
module

public import proofs.«01_k».proof.Proof.RefScatter
public import proofs.«01_k».proof.Proof.Payload
public import Idealize.ShloMosaic.Lib.KernelVsHost

/-! What the reference returns, at one class and one output place: the softmax of the scaled row of kept scores, applied to
the values, projected, and the bias added. -/

@[expose] public section

noncomputable section

namespace Cert.ReferenceIdeal.Val

open Cert.ReferenceIdeal Cert.ReferenceIdeal.Gen Cert.ReferenceIdeal.Read Cert.Pick
open Cert.KernelIdeal.Val (fold_pick ofBits_zero ofBits_bot scale)
open Idealize.ShloMosaic Idealize.ShloMosaic.TcCoe Idealize.SL.Sem
open Classical

/-- The maximum over the last axis, taken from minus infinity, is the entry at a greatest place. -/
theorem greatest (Y : FVec Ideal S4x1000x4096 .f32) (h : S4x1000x4096.ReducesTo [2] S4x1000) (hu : 0 < S_.numel)
    (b : Fin 4) (n : Fin 1000) (p : Fin 4096) (hp : IsTop (line Y b n) p) :
    Host.reduce FloatOps.maximumf Y (constant (F := Ideal) S_ .f32 0xFF800000#32) h hu (ix2 b n) = Y (ix3 b n p) := by
  haveI : Std.Commutative (FloatOps.maximumf (F := Ideal) (φ := .f32)) := ⟨fun a b => max_comm (α := EReal) a b⟩
  haveI : Std.Associative (FloatOps.maximumf (F := Ideal) (φ := .f32)) := ⟨fun a b c => max_assoc (α := EReal) a b c⟩
  have h' : S4x1000x4096.Reduces [2] S4x1000 := by decide
  refine (congrFun (hostReduce_maximumf_eq_multiReduction Y _ h hu h' (.inl rfl) rfl) _).trans ?_
  rw [multiReduction_maximumf_eq_fold, Shape.Reduces.fold_fiber_r3_a2]
  refine fold_pick _ _ (fun k => Y (ix3 b n k)) _ p (Finset.mem_univ _) ?_ fun i _ => ?_
  · exact max_eq_left (α := EReal) (le_of_eq_of_le ofBits_bot bot_le)
  · exact max_eq_left (α := EReal) (hp.1 i)

variable (x0 : (⟨S4x4096x768, .f32⟩ : BufTy).Contents (Elt Ideal)) (x1 : (⟨S1000x512, .f32⟩ : BufTy).Contents (Elt Ideal))
  (x2 x3 : (⟨S768x512, .f32⟩ : BufTy).Contents (Elt Ideal)) (x4 : (⟨S512x768, .f32⟩ : BufTy).Contents (Elt Ideal))
  (x5 : (⟨S768, .f32⟩ : BufTy).Contents (Elt Ideal))

/-- The norm of a row. -/
theorem v36_at (b : Fin 4) (n : Fin 1000) (i : Fin 4096) :
    val_main_v36 (F := Ideal) x0 x1 x2 (ix3 b n i) = nrm (refScores x0 x1 x2 b n) := by
  have e : idx_main_call0_v2 (idx_main_v36 (ix3 b n i)) = ix2 b n := by funext a; fin_cases a <;> rfl
  rw [val_main_v36_apply, val_main_v35_apply, val_main_call0_v2_apply, e, val_main_call0_v1_apply, val_main_call0_cst_apply,
    ofBits_zero, zero_add, Ideal.hostUnary_sqrt_def]
  unfold nrm
  refine congrArg Ideal.sqrt (Finset.sum_congr rfl fun k _ => ?_)
  have ek : idx_main_call0_v1 (ix2 b n) k = ix3 b n k := by funext a; fin_cases a <;> rfl
  rw [ek, val_main_call0_v0_apply, v34_at]
  rfl

/-- The scaled row. -/
theorem v39_at (b : Fin 4) (n : Fin 1000) (i : Fin 4096) :
    val_main_v39 (F := Ideal) x0 x1 x2 (ix3 b n i) = scaledR (refScores x0 x1 x2 b n) i := by
  rw [val_main_v39_apply, val_main_v37_apply, val_main_v38_apply, val_main_cst_6_apply, v36_at, v34_at]
  rfl

/-- The greatest entry of the scaled row. -/
theorem v42_at (b : Fin 4) (n : Fin 1000) :
    val_main_v42 (F := Ideal) x0 x1 x2 (ix2 b n) = maxR (refScores x0 x1 x2 b n) := by
  have e : line (val_main_v39 (F := Ideal) x0 x1 x2) b n = scaledR (refScores x0 x1 x2 b n) :=
    funext fun i => v39_at x0 x1 x2 b n i
  have hm : val_main_v40 (F := Ideal) x0 x1 x2 (ix2 b n) = scaledR (refScores x0 x1 x2 b n) (order (scaledR (refScores x0 x1 x2 b n)) first) := by
    unfold val_main_v40
    refine (greatest (val_main_v39 (F := Ideal) x0 x1 x2) _ _ b n (order (scaledR (refScores x0 x1 x2 b n)) first) ?_).trans (v39_at x0 x1 x2 b n _)
    rw [e]
    exact exists_isTop _ (by decide)
  rw [val_main_v42_apply, val_main_v41_apply, val_main_cst_8_apply, ofBits_bot, hm]
  rfl

theorem v46_at (b : Fin 4) (n : Fin 1000) (i : Fin 4096) : val_main_v46 (F := Ideal) x0 x1 x2 (ix3 b n i)
    = Ideal.exp (scaledR (refScores x0 x1 x2 b n) i - maxR (refScores x0 x1 x2 b n)) := by
  have e : idx_main_v43 (idx_main_v44 (ix3 b n i)) = ix2 b n := by funext a; fin_cases a <;> rfl
  rw [val_main_v46_apply, val_main_v45_apply, val_main_v44_apply, val_main_v43_apply, e, v42_at, v39_at]
  rfl

/-- The softmax of a scaled row. -/
theorem v50_at (b : Fin 4) (n : Fin 1000) (i : Fin 4096) : val_main_v50 (F := Ideal) x0 x1 x2 (ix3 b n i)
    = softmax (scaledR (refScores x0 x1 x2 b n)) (maxR (refScores x0 x1 x2 b n)) i := by
  have e : idx_main_v48 (idx_main_v49 (ix3 b n i)) = ix2 b n := by funext a; fin_cases a <;> rfl
  have hs : val_main_v49 (F := Ideal) x0 x1 x2 (ix3 b n i) = ∑ k : Fin 4096,
      Ideal.exp (scaledR (refScores x0 x1 x2 b n) k - maxR (refScores x0 x1 x2 b n)) := by
    rw [val_main_v49_apply, val_main_v48_apply, e, val_main_v47_apply, val_main_cst_9_apply, ofBits_zero, zero_add]
    refine Finset.sum_congr rfl fun k _ => ?_
    have ek : idx_main_v47 (ix2 b n) k = ix3 b n k := by funext a; fin_cases a <;> rfl
    rw [ek, v46_at]
  rw [val_main_v50_apply, v46_at, hs]
  rfl

/-- The values the reference mixes. -/
theorem v3_at (b : Fin 4) (i : Fin 4096) (e : Fin 512) : val_main_v3 (F := Ideal) x0 x3 (ix3 b i e)
    = ∑ j : Fin 768, x0 (ix3 b i j) * x3 (ix2 j e) := by
  rw [val_main_v3_apply]
  refine Finset.sum_congr rfl fun j _ => congrArg₂ (· * ·) (congrArg x0 ?_) (congrArg x3 ?_)
  · funext a; fin_cases a <;> rfl
  · funext a; fin_cases a <;> rfl

/-- The scores, as sums of products. -/
theorem refScores_eq (b : Fin 4) (n : Fin 1000) (i : Fin 4096) : refScores x0 x1 x2 b n i
    = (∑ e : Fin 512, x1 (ix2 n e) * ∑ j : Fin 768, x0 (ix3 b i j) * x2 (ix2 j e)) * scale := by
  show val_main_v7 (F := Ideal) x0 x1 x2 (ix3 b n i) = _
  rw [val_main_v7_apply, val_main_v6_apply, val_main_cst_apply, val_main_v5_apply]
  refine congrArg (· * scale) (Finset.sum_congr rfl fun e _ => congrArg₂ (· * ·) ?_ ?_)
  · rw [val_main_v1_apply, val_main_v0_apply]
    refine congrArg x1 ?_
    funext a; fin_cases a <;> rfl
  · rw [val_main_v4_apply, val_main_v2_apply]
    refine Finset.sum_congr rfl fun j _ => congrArg₂ (· * ·) (congrArg x0 ?_) (congrArg x2 ?_)
    · funext a; fin_cases a <;> rfl
    · funext a; fin_cases a <;> rfl

/-- The reference's result. -/
theorem v55_at (b : Fin 4) (n : Fin 1000) (d : Fin 768) : val_main_v55 (F := Ideal) x0 x1 x2 x3 x4 x5 (ix3 b n d)
    = (∑ e : Fin 512, (∑ i : Fin 4096, softmax (scaledR (refScores x0 x1 x2 b n)) (maxR (refScores x0 x1 x2 b n)) i
        * ∑ j : Fin 768, x0 (ix3 b i j) * x3 (ix2 j e)) * x4 (ix2 e d)) + x5 (ix1 d) := by
  rw [val_main_v55_apply, val_main_v54_apply, val_main_v53_apply, val_main_v52_apply]
  refine congrArg₂ (· + ·) (Finset.sum_congr rfl fun e _ => congrArg₂ (· * ·) ?_ (congrArg x4 ?_)) (congrArg x5 ?_)
  · have el : lidx_main_v52 (ix3 b n d) e = ix3 b n e := by funext a; fin_cases a <;> rfl
    rw [el, val_main_v51_apply]
    refine Finset.sum_congr rfl fun i _ => congrArg₂ (· * ·) ?_ ?_
    · have e1 : lidx_main_v51 (ix3 b n e) i = ix3 b n i := by funext a; fin_cases a <;> rfl
      rw [e1, v50_at]
    · have e2 : ridx_main_v51 (ix3 b n e) i = ix3 b i e := by funext a; fin_cases a <;> rfl
      rw [e2, v3_at]
  · funext a; fin_cases a <;> rfl
  · funext a; fin_cases a <;> rfl

end Cert.ReferenceIdeal.Val

end
-- ==== Proof.Rankable.lean ====
module

public import proofs.«01_k».proof.Proof.RefOut
public import proofs.«01_k».proof.Proof.Gen.Pre_scores_rankable

/-! What the precondition says of the reference's scores: none is minus infinity, and in no row are the nine greatest all
zero. -/

@[expose] public section

noncomputable section

namespace Cert.ReferenceIdeal.Val

open Cert.ReferenceIdeal Cert.ReferenceIdeal.Gen Cert.ReferenceIdeal.Read Cert.Pick
open Cert.KernelIdeal.Val (ofBits_zero ofBits_bot)
open Idealize.ShloMosaic Idealize.ShloMosaic.TcCoe Idealize.SL.Sem
open Idealize.ShloMosaic.ValueIdx (cmpf_apply)
open Classical

theorem both_one (a b : BitVec 1) (h : a &&& b = 1#1) : a = 1#1 ∧ b = 1#1 := by revert a b; decide

theorem less_of (x y : EReal) (h : FloatOps.cmpf (F := Ideal) (φ := .f32) .ogt x y = 1#1) : y < x := by
  have h' : BitVec.ofBool (decide (y < x)) = 1#1 := h
  by_contra hn
  rw [decide_eq_false hn] at h'
  exact absurd h' (by decide)

theorem sqrt_zero : Ideal.sqrt 0 = 0 := by
  show (if (0 : ℝ) < 0 then (⊥ : EReal) else ((√0 : ℝ) : EReal)) = 0
  simp

/-- The norm of the nine values of a row, at one place. -/
theorem norm_at (v : FVec Ideal S4x1000x9 .f32) (b : Fin 4) (n : Fin 1000) :
    Cert.Pre_scores_rankable.fn_norm (F := Ideal) v (ix3 b n (0 : Fin 1))
      = Ideal.sqrt (∑ k : Fin 9, v (ix3 b n k) * v (ix3 b n k)) := by
  unfold Cert.Pre_scores_rankable.fn_norm
  dsimp only
  refine congrArg Ideal.sqrt ?_
  rw [broadcastInDim_apply _ _ _ _ (ix2 b n) (by intro a; fin_cases a <;> rfl)]
  refine (Ideal.hostReduceAdd_r3_a2 _ _ _ _).trans ?_
  rw [show (constant (F := Ideal) Cert.Pre_scores_rankable.S_ .f32 0x00000000#32) _ = (0 : EReal) from ofBits_zero, zero_add]
  rfl

variable (x0 : (⟨S4x4096x768, .f32⟩ : BufTy).Contents (Elt Ideal)) (x1 : (⟨S1000x512, .f32⟩ : BufTy).Contents (Elt Ideal))
  (x2 x3 : (⟨S768x512, .f32⟩ : BufTy).Contents (Elt Ideal)) (x4 : (⟨S512x768, .f32⟩ : BufTy).Contents (Elt Ideal))
  (x5 : (⟨S768, .f32⟩ : BufTy).Contents (Elt Ideal))

/-- The precondition's function, on the reference's scores and their nine greatest. -/
theorem fn_eq : Cert.Pre_scores_rankable.fn (F := Ideal) x0 x1 x2 x3 x4 x5
    = andi (cmpf .ogt (val_main_v7 (F := Ideal) x0 x1 x2)
        (broadcastInDim S4x1000x4096 ![] Cert.Pre_scores_rankable.Gen.bcast_S_S4x1000x4096 (constant (F := Ideal) S_ .f32 0xFF800000#32)))
      (broadcastInDim S4x1000x4096 ![0, 1, 2] Cert.Pre_scores_rankable.Gen.bcast_S4x1000x1_S4x1000x4096_0_1_2
        (cmpf .ogt (Cert.Pre_scores_rankable.fn_norm (F := Ideal) (val_main_values (F := Ideal) x0 x1 x2))
          (broadcastInDim S4x1000x1 ![] Cert.Pre_scores_rankable.Gen.bcast_S_S4x1000x1 (constant (F := Ideal) S_ .f32 0x00000000#32)))) := by
  unfold Cert.Pre_scores_rankable.fn
  rfl

theorem rankable (h : Cert.Pre_scores_rankable.fn (F := Ideal) x0 x1 x2 x3 x4 x5 = fun _ => 1#1) (b : Fin 4) (n : Fin 1000) :
    (∀ i, refScores x0 x1 x2 b n i ≠ ⊥) ∧ nrm (refScores x0 x1 x2 b n) ≠ 0 := by
  rw [fn_eq] at h
  have at_i (i : Fin 4096) := both_one _ _ (congrFun h (ix3 b n i))
  refine ⟨fun i => ?_, ?_⟩
  · have := less_of _ _ (at_i i).1
    exact (lt_of_le_of_lt bot_le this).ne'
  · have h2 := (at_i 0).2
    rw [broadcastInDim_apply _ _ _ _ (ix3 b n (0 : Fin 1)) (by intro a; fin_cases a <;> rfl)] at h2
    have h3 : (0 : EReal) < Cert.Pre_scores_rankable.fn_norm (F := Ideal) (val_main_values (F := Ideal) x0 x1 x2) (ix3 b n (0 : Fin 1)) :=
      lt_of_eq_of_lt ofBits_zero.symm (less_of _ _ h2)
    rw [norm_at] at h3
    by_contra hz
    have zero (k : Fin 9) : val_main_values (F := Ideal) x0 x1 x2 (ix3 b n k) = 0 := by
      rw [values_at]
      by_contra hne
      exact nrm_ne_zero _ _ ⟨place k, k.isLt, rfl⟩ hne hz
    simp only [zero, mul_zero, Finset.sum_const_zero] at h3
    exact absurd (lt_of_lt_of_eq h3 sqrt_zero) (lt_irrefl _)

end Cert.ReferenceIdeal.Val

end
-- ==== Proof.Equation.lean ====
module

public import proofs.«01_k».proof.Proof.Out
public import proofs.«01_k».proof.Proof.Host
public import proofs.«01_k».proof.Proof.Rankable

/-! The kernel's result is the reference's, wherever the precondition holds. -/

@[expose] public section

noncomputable section

namespace Cert.Equation

open Cert.Pick Cert.KernelIdeal.Val Cert.ReferenceIdeal.Val
open Cert.KernelIdeal (S4x4096x768 S1000x512 S768x512 S512x768 S768)
open Cert.KernelIdeal.Gen
open Idealize.ShloMosaic Idealize.ShloMosaic.TcCoe Idealize.SL.Sem
open Classical

variable (x : Vec Ideal S4x4096x768 .f32) (q : Vec Ideal S1000x512 .f32) (wk wv : Vec Ideal S768x512 .f32)
  (wp : Vec Ideal S512x768 .f32) (bp : Vec Ideal S768 .f32)

/-- The kernel's scores of a class are the reference's. -/
theorem scores_eq (b : Fin 4) (n : Fin 1000) (j : Fin 4) (r : Fin 256) (h : n.val = j.val * 256 + r.val) :
    scores (qTile (padQ q) j) (k0_pay2 (batch x b) wk) r = refScores x q wk b n := by
  funext i
  refine (pay4_apply _ _ r i).trans (.trans ?_ (refScores_eq x q wk b n i).symm)
  refine congrArg (· * scale) (Finset.sum_congr rfl fun e _ => congrArg₂ (· * ·) ?_ (pay2_apply _ _ i e))
  exact padQ_apply q _ n e h.symm

theorem equal (h : Cert.Pre_scores_rankable.fn (F := Ideal) x q wk wv wp bp = fun _ => 1#1) :
    kernelOut x q wk wv wp bp = Cert.ReferenceIdeal.Read.val_main_v55 (F := Ideal) x q wk wv wp bp := by
  have key (b : Fin 4) (n : Fin 1000) (d : Fin 768) : kernelOut x q wk wv wp bp (ix3 b n d)
      = Cert.ReferenceIdeal.Read.val_main_v55 (F := Ideal) x q wk wv wp bp (ix3 b n d) := by
    obtain ⟨hb, hn⟩ := rankable x q wk wv wp bp h b n
    have hj : n.val = (⟨n.val / 256, by omega⟩ : Fin 4).val * 256 + (⟨n.val % 256, Nat.mod_lt _ (by decide)⟩ : Fin 256).val := by
      show n.val = n.val / 256 * 256 + n.val % 256; omega
    have hs := scores_eq x q wk b n _ _ hj
    refine (kernelOut_apply x q wk wv wp bp b n d _ _ hj).trans
      ((outBlk_apply _ _ _ (fun i => ?_) _ _ _ d).trans (.trans ?_ (v55_at x q wk wv wp bp b n d).symm))
    · rw [hs]; exact hb i
    · rw [hs, softmax_eq _ hn, bpRow_apply]
      refine congrArg (· + bp (ix1 d)) (Finset.sum_congr rfl fun e _ => congrArg (· * wp (ix2 e d))
        (Finset.sum_congr rfl fun i _ => congrArg₂ (· * ·) rfl ?_))
      exact pay3_apply _ _ i e
  funext i
  have e : i = ix3 (i 0 : Fin 4) (i 1 : Fin 1000) (i 2 : Fin 768) := by funext a; fin_cases a <;> rfl
  rw [e]
  exact key _ _ _

end Cert.Equation

end
-- ==== Proof.lean ====
/- The proof of everything claimed: the three programs run to the end and leave their arguments as they were, the
   idealized kernel is the kernel, and wherever the precondition holds the kernel's result is the reference's. -/
module

public import proofs.«01_k».proof.Defs
public import proofs.«01_k».proof.Proof.Frames
public import proofs.«01_k».proof.Proof.Equation
public import proofs.«01_k».proof.Proof.Gen.Pre_scores_rankable

@[expose] public section

noncomputable section

namespace Cert.Proof

open Idealize.ShloMosaic Idealize.ShloMosaic.TcCoe Idealize.SL.Sem

/-- The value claim: both programs end with one and the same result. -/
theorem algebraic : Cert.algebraic_KernelIdeal_ReferenceIdeal_pre_scores_rankable (hKernelIdeal := Cert.KernelIdeal.Gen.facts)
    (hReferenceIdeal := Cert.ReferenceIdeal.Gen.facts) (hPre_scores_rankable := Cert.Pre_scores_rankable.Gen.facts) := by
  intro m g m' g' hpre hagree
  refine ⟨fun c => Cert.KernelIdeal.Val.kernelOut (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2))
    (m ((c.tc : Thread Cert.KernelIdeal.nD Cert.KernelIdeal.τ).loc Cert.KernelIdeal.main_arg3))
    (m ((c.tc : Thread Cert.KernelIdeal.nD Cert.KernelIdeal.τ).loc Cert.KernelIdeal.main_arg4))
    (m ((c.tc : Thread Cert.KernelIdeal.nD Cert.KernelIdeal.τ).loc Cert.KernelIdeal.main_arg5)),
    Cert.KernelIdeal.Val.run m g, ?_⟩
  refine (θ_run Cert.ReferenceIdeal.defs _ _).mono (fun r h c => ⟨(h c).1.trans ?_, (h c).2⟩)
    (Cert.ReferenceIdeal.Value.run (F := Ideal) m' g')
  rw [Cert.ReferenceIdeal.Read.val_main_v55_eq]
  obtain ⟨h0, h1, h2, h3, h4, h5⟩ := hagree c
  rw [h0, h1, h2, h3, h4, h5]
  exact (Cert.Equation.equal _ _ _ _ _ _ (hpre c)).symm

theorem claim : Cert.Claim := ⟨Cert.Kernel.Gen.facts, Cert.KernelIdeal.Gen.facts, Cert.ReferenceIdeal.Gen.facts,
  Cert.Pre_scores_rankable.Gen.facts, frame_kernel, frame_kernelIdeal, fun m ρ _ => frame_kernelIdeal m ρ trivial,
  frame_referenceIdeal, fun m ρ _ => frame_referenceIdeal m ρ trivial, trivial, algebraic⟩

end Cert.Proof

end
